-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_routed.lean ====
abbrev S16384x1024 : Shape := ⟨2, ![16384, 1024]⟩
abbrev S16384x128 : Shape := ⟨2, ![16384, 128]⟩
abbrev S16x1024x256 : Shape := ⟨3, ![16, 1024, 256]⟩
abbrev S16x256x1024 : Shape := ⟨3, ![16, 256, 1024]⟩
abbrev S1024 : Shape := ⟨1, ![1024]⟩
abbrev S16384x1 : Shape := ⟨2, ![16384, 1]⟩
abbrev S_ : Shape := ⟨0, ![]⟩
abbrev S16384x16 : Shape := ⟨2, ![16384, 16]⟩
abbrev S16384x4 : Shape := ⟨2, ![16384, 4]⟩

class Facts : Prop where
  slices_S16384x128_S16384x1_0_20 : S16384x128.Slices ![0, 20] S16384x1
  bcast_S_S16384x1 : S_.BroadcastsInDim S16384x1 (![] : Fin 0 → Fin S16384x1.rank)
  slices_S16384x128_S16384x16_0_0 : S16384x128.Slices ![0, 0] S16384x16
  bcast_S_S16384x16 : S_.BroadcastsInDim S16384x16 (![] : Fin 0 → Fin S16384x16.rank)
  slices_S16384x128_S16384x4_0_0 : S16384x128.Slices ![0, 0] S16384x4
  bcast_S_S16384x4 : S_.BroadcastsInDim S16384x4 (![] : Fin 0 → Fin S16384x4.rank)
  bcast_S16384x1_S16384x4_0_1 : S16384x1.BroadcastsInDim S16384x4 (![0, 1] : Fin 2 → Fin S16384x4.rank)
  slices_S16384x128_S16384x4_0_4 : S16384x128.Slices ![0, 4] S16384x4
  slices_S16384x128_S16384x4_0_8 : S16384x128.Slices ![0, 8] S16384x4
  slices_S16384x128_S16384x4_0_12 : S16384x128.Slices ![0, 12] S16384x4

variable [Facts]

def fn_part2 {F : FTy → Type} [FloatOps F] (main_arg1 : FVec F S16384x128 .f32) (main_v0 : FVec F S16384x1 .f32) (main_v11 : IVec S16384x1 1) (main_v15 : IVec S16384x16 1) (main_v22 : IVec S16384x4 1) (main_v29 : IVec S16384x4 1) (main_v36 : IVec S16384x4 1) : IVec S16384x1 1 × IVec S16384x16 1 × IVec S16384x4 1 × IVec S16384x4 1 × IVec S16384x4 1 × IVec S16384x4 1 :=
  let main_cst_10 : FVec F S_ .f32 := constant S_ .f32 0x40400000#32
  let main_v37 : FVec F S16384x1 .f32 := broadcastInDim S16384x1 ![] bcast_S_S16384x1 main_cst_10
  let main_v38 : IVec S16384x1 1 := cmpf .oeq main_v0 main_v37
  let main_v39 : FVec F S16384x4 .f32 := (extractStridedSlice S16384x4 ![0, 12] · slices_S16384x128_S16384x4_0_12) main_arg1
  let main_cst_11 : FVec F S_ .f32 := constant S_ .f32 0x00000000#32
  let main_v40 : FVec F S16384x4 .f32 := broadcastInDim S16384x4 ![] bcast_S_S16384x4 main_cst_11
  let main_v41 : IVec S16384x4 1 := cmpf .oeq main_v39 main_v40
  let main_v42 : IVec S16384x4 1 := broadcastInDim S16384x4 ![0, 1] bcast_S16384x1_S16384x4_0_1 main_v38
  let main_v43 : IVec S16384x4 1 := ori main_v42 main_v41
  (main_v11, main_v15, main_v22, main_v29, main_v36, main_v43)

def fn_part1 {F : FTy → Type} [FloatOps F] (main_arg1 : FVec F S16384x128 .f32) (main_v0 : FVec F S16384x1 .f32) (main_v11 : IVec S16384x1 1) (main_v15 : IVec S16384x16 1) (main_v17 : IVec S16384x1 1) : IVec S16384x1 1 × IVec S16384x16 1 × IVec S16384x4 1 × IVec S16384x4 1 × IVec S16384x4 1 × IVec S16384x4 1 :=
  let main_v18 : FVec F S16384x4 .f32 := (extractStridedSlice S16384x4 ![0, 0] · slices_S16384x128_S16384x4_0_0) main_arg1
  let main_cst_5 : FVec F S_ .f32 := constant S_ .f32 0x00000000#32
  let main_v19 : FVec F S16384x4 .f32 := broadcastInDim S16384x4 ![] bcast_S_S16384x4 main_cst_5
  let main_v20 : IVec S16384x4 1 := cmpf .oeq main_v18 main_v19
  let main_v21 : IVec S16384x4 1 := broadcastInDim S16384x4 ![0, 1] bcast_S16384x1_S16384x4_0_1 main_v17
  let main_v22 : IVec S16384x4 1 := ori main_v21 main_v20
  let main_cst_6 : FVec F S_ .f32 := constant S_ .f32 0x3F800000#32
  let main_v23 : FVec F S16384x1 .f32 := broadcastInDim S16384x1 ![] bcast_S_S16384x1 main_cst_6
  let main_v24 : IVec S16384x1 1 := cmpf .oeq main_v0 main_v23
  let main_v25 : FVec F S16384x4 .f32 := (extractStridedSlice S16384x4 ![0, 4] · slices_S16384x128_S16384x4_0_4) main_arg1
  let main_cst_7 : FVec F S_ .f32 := constant S_ .f32 0x00000000#32
  let main_v26 : FVec F S16384x4 .f32 := broadcastInDim S16384x4 ![] bcast_S_S16384x4 main_cst_7
  let main_v27 : IVec S16384x4 1 := cmpf .oeq main_v25 main_v26
  let main_v28 : IVec S16384x4 1 := broadcastInDim S16384x4 ![0, 1] bcast_S16384x1_S16384x4_0_1 main_v24
  let main_v29 : IVec S16384x4 1 := ori main_v28 main_v27
  let main_cst_8 : FVec F S_ .f32 := constant S_ .f32 0x40000000#32
  let main_v30 : FVec F S16384x1 .f32 := broadcastInDim S16384x1 ![] bcast_S_S16384x1 main_cst_8
  let main_v31 : IVec S16384x1 1 := cmpf .oeq main_v0 main_v30
  let main_v32 : FVec F S16384x4 .f32 := (extractStridedSlice S16384x4 ![0, 8] · slices_S16384x128_S16384x4_0_8) main_arg1
  let main_cst_9 : FVec F S_ .f32 := constant S_ .f32 0x00000000#32
  let main_v33 : FVec F S16384x4 .f32 := broadcastInDim S16384x4 ![] bcast_S_S16384x4 main_cst_9
  let main_v34 : IVec S16384x4 1 := cmpf .oeq main_v32 main_v33
  let main_v35 : IVec S16384x4 1 := broadcastInDim S16384x4 ![0, 1] bcast_S16384x1_S16384x4_0_1 main_v31
  let main_v36 : IVec S16384x4 1 := ori main_v35 main_v34
  fn_part2 (F := F) main_arg1 main_v0 main_v11 main_v15 main_v22 main_v29 main_v36

def fn {F : FTy → Type} [FloatOps F] (main_arg0 : FVec F S16384x1024 .bf16) (main_arg1 : FVec F S16384x128 .f32) (main_arg2 : FVec F S16384x1024 .f32) (main_arg3 : FVec F S16x1024x256 .f32) (main_arg4 : FVec F S16x1024x256 .f32) (main_arg5 : FVec F S16x256x1024 .f32) (main_arg6 : FVec F S1024 .f32) : IVec S16384x1 1 × IVec S16384x16 1 × IVec S16384x4 1 × IVec S16384x4 1 × IVec S16384x4 1 × IVec S16384x4 1 :=
  let main_v0 : FVec F S16384x1 .f32 := (extractStridedSlice S16384x1 ![0, 20] · slices_S16384x128_S16384x1_0_20) main_arg1
  let main_cst : FVec F S_ .f32 := constant S_ .f32 0x00000000#32
  let main_v1 : FVec F S16384x1 .f32 := broadcastInDim S16384x1 ![] bcast_S_S16384x1 main_cst
  let main_v2 : IVec S16384x1 1 := cmpf .oeq main_v0 main_v1
  let main_cst_0 : FVec F S_ .f32 := constant S_ .f32 0x3F800000#32
  let main_v3 : FVec F S16384x1 .f32 := broadcastInDim S16384x1 ![] bcast_S_S16384x1 main_cst_0
  let main_v4 : IVec S16384x1 1 := cmpf .oeq main_v0 main_v3
  let main_v5 : IVec S16384x1 1 := ori main_v2 main_v4
  let main_cst_1 : FVec F S_ .f32 := constant S_ .f32 0x40000000#32
  let main_v6 : FVec F S16384x1 .f32 := broadcastInDim S16384x1 ![] bcast_S_S16384x1 main_cst_1
  let main_v7 : IVec S16384x1 1 := cmpf .oeq main_v0 main_v6
  let main_v8 : IVec S16384x1 1 := ori main_v5 main_v7
  let main_cst_2 : FVec F S_ .f32 := constant S_ .f32 0x40400000#32
  let main_v9 : FVec F S16384x1 .f32 := broadcastInDim S16384x1 ![] bcast_S_S16384x1 main_cst_2
  let main_v10 : IVec S16384x1 1 := cmpf .oeq main_v0 main_v9
  let main_v11 : IVec S16384x1 1 := ori main_v8 main_v10
  let main_v12 : FVec F S16384x16 .f32 := (extractStridedSlice S16384x16 ![0, 0] · slices_S16384x128_S16384x16_0_0) main_arg1
  let main_v13 : FVec F S16384x16 .f32 := Host.absf main_v12
  let main_cst_3 : FVec F S_ .f32 := constant S_ .f32 0x7F800000#32
  let main_v14 : FVec F S16384x16 .f32 := broadcastInDim S16384x16 ![] bcast_S_S16384x16 main_cst_3
  let main_v15 : IVec S16384x16 1 := cmpf .olt main_v13 main_v14
  let main_cst_4 : FVec F S_ .f32 := constant S_ .f32 0x00000000#32
  let main_v16 : FVec F S16384x1 .f32 := broadcastInDim S16384x1 ![] bcast_S_S16384x1 main_cst_4
  let main_v17 : IVec S16384x1 1 := cmpf .oeq main_v0 main_v16
  fn_part1 (F := F) main_arg1 main_v0 main_v11 main_v15 main_v17
-- ==== Kernel.lean ====
abbrev S16384x1024 : Shape := ⟨2, ![16384, 1024]⟩
abbrev S16384x128 : Shape := ⟨2, ![16384, 128]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩
abbrev S128x128 : Shape := ⟨2, ![128, 128]⟩
abbrev S1x1024 : Shape := ⟨2, ![1, 1024]⟩
abbrev S1024x1024 : Shape := ⟨2, ![1024, 1024]⟩
abbrev S1024x128 : Shape := ⟨2, ![1024, 128]⟩
abbrev S4x1024x256 : Shape := ⟨3, ![4, 1024, 256]⟩
abbrev S4x256x1024 : Shape := ⟨3, ![4, 256, 1024]⟩
abbrev S8 : Shape := ⟨1, ![8]⟩
abbrev S1024x1 : Shape := ⟨2, ![1024, 1]⟩
abbrev S1x128 : Shape := ⟨2, ![1, 128]⟩
abbrev S1x1 : Shape := ⟨2, ![1, 1]⟩
abbrev S1 : Shape := ⟨1, ![1]⟩
abbrev S128x1024 : Shape := ⟨2, ![128, 1024]⟩
abbrev S1024x256 : Shape := ⟨2, ![1024, 256]⟩
abbrev S1x1024x256 : Shape := ⟨3, ![1, 1024, 256]⟩
abbrev S128x256 : Shape := ⟨2, ![128, 256]⟩
abbrev S128 : Shape := ⟨1, ![128]⟩
abbrev S128x1 : Shape := ⟨2, ![128, 1]⟩
abbrev S1x256x1024 : Shape := ⟨3, ![1, 256, 1024]⟩
abbrev S256x1024 : Shape := ⟨2, ![256, 1024]⟩

abbrev nBuf : Space → Nat
  | .hbm => 24
  | .vmem => 20
  | .smem => 1
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S1024, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .bf16⟩
  | .hbm, ⟨19, _⟩ => ⟨S16x1024x256, .bf16⟩
  | .hbm, ⟨20, _⟩ => ⟨S16x1024x256, .bf16⟩
  | .hbm, ⟨21, _⟩ => ⟨S16x256x1024, .bf16⟩
  | .hbm, ⟨22, _⟩ => ⟨S1x1024, .f32⟩
  | .hbm, ⟨23, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S128x128, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S4x1024x256, .bf16⟩
  | .local _ .vmem, ⟨11, _⟩ => ⟨S4x256x1024, .bf16⟩
  | .local _ .vmem, ⟨12, _⟩ => ⟨S4x256x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x128, .f32⟩
  | .local _ .vmem, ⟨19, _⟩ => ⟨S1024x1024, .f32⟩
  | .local _ .smem, ⟨0, _⟩ => ⟨S8, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_off1 (i : grid0.Coords) : Fin 1 → Nat :=
  let arg1 : BitVec 32 := BitVec.ofNat 32 (i 1).val
  let v4 : Index := Scalar.indexCast arg1
  ![v4.toNat]
def k0_off2 (i : grid0.Coords) : Fin 1 → Nat :=
  let c4_i32 : BitVec 32 := 4#32
  let arg1 : BitVec 32 := BitVec.ofNat 32 (i 1).val
  let v6 : BitVec 32 := Scalar.addi c4_i32 arg1
  let v7 : Index := Scalar.indexCast v6
  ![v7.toNat]
def k0_cond10 (i : grid0.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_17 : BitVec 32 := 0#32
  let v53 : BitVec 1 := Scalar.cmpi .ne v52 c0_i32_17
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16384x1024 : Shape := ⟨2, ![16384, 1024]⟩
abbrev S16384x128 : Shape := ⟨2, ![16384, 128]⟩
abbrev S16x1024x256 : Shape := ⟨3, ![16, 1024, 256]⟩
abbrev S16x256x1024 : Shape := ⟨3, ![16, 256, 1024]⟩
abbrev S1024 : Shape := ⟨1, ![1024]⟩
abbrev S16384x16 : Shape := ⟨2, ![16384, 16]⟩
abbrev S16384x16x256 : Shape := ⟨3, ![16384, 16, 256]⟩
abbrev S_ : Shape := ⟨0, ![]⟩
abbrev S16384x16x1 : Shape := ⟨3, ![16384, 16, 1]⟩
abbrev S16384 : Shape := ⟨1, ![16384]⟩
abbrev S16384x1 : Shape := ⟨2, ![16384, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S1024, .f32⟩
  | .hbm, ⟨7, _⟩ => ⟨S16384x1024, .f32⟩
  | .hbm, ⟨8, _⟩ => ⟨S16384x16, .f32⟩
  | .hbm, ⟨9, _⟩ => ⟨S16384x16x256, .f32⟩
  | .hbm, ⟨10, _⟩ => ⟨S16384x16x256, .f32⟩
  | .hbm, ⟨11, _⟩ => ⟨S16384x16x256, .f32⟩
  | .hbm, ⟨12, _⟩ => ⟨S_, .f32⟩
  | .hbm, ⟨13, _⟩ => ⟨S16384x16x256, .f32⟩
  | .hbm, ⟨14, _⟩ => ⟨S16384x16x256, .f32⟩
  | .hbm, ⟨15, _⟩ => ⟨S_, .f32⟩
  | .hbm, ⟨16, _⟩ => ⟨S16384x16x256, .f32⟩
  | .hbm, ⟨17, _⟩ => ⟨S16384x16x256, .f32⟩
  | .hbm, ⟨18, _⟩ => ⟨S16384x16x256, .f32⟩
  | .hbm, ⟨19, _⟩ => ⟨S16384x16x256, .f32⟩
  | .hbm, ⟨20, _⟩ => ⟨S16384x16x256, .f32⟩
  | .hbm, ⟨21, _⟩ => ⟨S16384x16x1, .f32⟩
  | .hbm, ⟨22, _⟩ => ⟨S16384x16x256, .f32⟩
  | .hbm, ⟨23, _⟩ => ⟨S16384x16x256, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x16 : Shape := ⟨2, ![1024, 16]⟩
abbrev S1024x4 : Shape := ⟨2, ![1024, 4]⟩
abbrev S16 : Shape := ⟨1, ![16]⟩
abbrev S4 : Shape := ⟨1, ![4]⟩
abbrev S_ : Shape := ⟨0, ![]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S1x1024 : Shape := ⟨2, ![1, 1024]⟩
abbrev S16384x128 : Shape := ⟨2, ![16384, 128]⟩
abbrev S512x1024 : Shape := ⟨2, ![512, 1024]⟩
abbrev S512x256 : Shape := ⟨2, ![512, 256]⟩
abbrev S512x128 : Shape := ⟨2, ![512, 128]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 46
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S1024x4, .f32⟩
  | .hbm, ⟨9, _⟩ => ⟨S16, .f32⟩
  | .hbm, ⟨10, _⟩ => ⟨S4, .f32⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S1024x256, .bf16⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1x128, .f32⟩
  | .hbm, ⟨40, _⟩ => ⟨S1x128, .f32⟩
  | .hbm, ⟨41, _⟩ => ⟨S1024x1024, .bf16⟩
  | .hbm, ⟨42, _⟩ => ⟨S1x1024, .f32⟩
  | .hbm, ⟨43, _⟩ => ⟨S16384x1024, .f32⟩
  | .hbm, ⟨44, _⟩ => ⟨S16384x1024, .bf16⟩
  | .hbm, ⟨45, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1024x256, .bf16⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x128, .f32⟩
  | .local _ .vmem, ⟨19, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_c_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_v23_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x16 : Shape := ⟨2, ![1024, 16]⟩
abbrev S1024x4 : Shape := ⟨2, ![1024, 4]⟩
abbrev S16 : Shape := ⟨1, ![16]⟩
abbrev S4 : Shape := ⟨1, ![4]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S1024x4, .f32⟩
  | .hbm, ⟨9, _⟩ => ⟨S16, .f32⟩
  | .hbm, ⟨10, _⟩ => ⟨S4, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S2x1024x3328 : Shape := ⟨3, ![2, 1024, 3328]⟩
abbrev S16384x128 : Shape := ⟨2, ![16384, 128]⟩
abbrev S2x128x8192 : Shape := ⟨3, ![2, 128, 8192]⟩
abbrev S256 : Shape := ⟨1, ![256]⟩
abbrev S256x1024 : Shape := ⟨2, ![256, 1024]⟩
abbrev S128 : Shape := ⟨1, ![128]⟩
abbrev S128x512 : Shape := ⟨2, ![128, 512]⟩
abbrev S128x384 : Shape := ⟨2, ![128, 384]⟩
abbrev S1x128 : Shape := ⟨2, ![1, 128]⟩
abbrev S1x1024 : Shape := ⟨2, ![1, 1024]⟩
abbrev S1x256 : Shape := ⟨2, ![1, 256]⟩
abbrev S16384x2176 : Shape := ⟨2, ![16384, 2176]⟩
abbrev S16384x512 : Shape := ⟨2, ![16384, 512]⟩
abbrev S2x512x8192 : Shape := ⟨3, ![2, 512, 8192]⟩
abbrev S2x320x8192 : Shape := ⟨3, ![2, 320, 8192]⟩
abbrev S512x1024 : Shape := ⟨2, ![512, 1024]⟩
abbrev S1x1024x3328 : Shape := ⟨3, ![1, 1024, 3328]⟩
abbrev S512x128 : Shape := ⟨2, ![512, 128]⟩
abbrev S1x128x512 : Shape := ⟨3, ![1, 128, 512]⟩
abbrev S512x2176 : Shape := ⟨2, ![512, 2176]⟩
abbrev S512x512 : Shape := ⟨2, ![512, 512]⟩
abbrev S1x512x512 : Shape := ⟨3, ![1, 512, 512]⟩
abbrev S1x320x512 : Shape := ⟨3, ![1, 320, 512]⟩
abbrev S32x512 : Shape := ⟨2, ![32, 512]⟩
abbrev S512 : Shape := ⟨1, ![512]⟩
abbrev S512x1 : Shape := ⟨2, ![512, 1]⟩
abbrev S1x1024x1280 : Shape := ⟨3, ![1, 1024, 1280]⟩
abbrev S1024x1280 : Shape := ⟨2, ![1024, 1280]⟩
abbrev S512x1280 : Shape := ⟨2, ![512, 1280]⟩
abbrev S1x1024x512 : Shape := ⟨3, ![1, 1024, 512]⟩
abbrev S1024x512 : Shape := ⟨2, ![1024, 512]⟩
abbrev S512x256 : Shape := ⟨2, ![512, 256]⟩
abbrev S512x64 : Shape := ⟨2, ![512, 64]⟩
abbrev S512x16 : Shape := ⟨2, ![512, 16]⟩
abbrev S512x384 : Shape := ⟨2, ![512, 384]⟩
abbrev S256x512 : Shape := ⟨2, ![256, 512]⟩
abbrev S1x512 : Shape := ⟨2, ![1, 512]⟩
abbrev S32x128 : Shape := ⟨2, ![32, 128]⟩
abbrev S64x512 : Shape := ⟨2, ![64, 512]⟩
abbrev S384x512 : Shape := ⟨2, ![384, 512]⟩
abbrev S320x512 : Shape := ⟨2, ![320, 512]⟩

abbrev nBuf : Space → Nat
  | .hbm => 23
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x3328, .bf16⟩
  | .hbm, ⟨3, _⟩ => ⟨S16384x128, .f32⟩
  | .hbm, ⟨4, _⟩ => ⟨S16384x128, .f32⟩
  | .hbm, ⟨5, _⟩ => ⟨S2x128x8192, .f32⟩
  | .hbm, ⟨6, _⟩ => ⟨S2x128x8192, .f32⟩
  | .hbm, ⟨7, _⟩ => ⟨S256, .f32⟩
  | .hbm, ⟨8, _⟩ => ⟨S256x1024, .bf16⟩
  | .hbm, ⟨9, _⟩ => ⟨S128, .f32⟩
  | .hbm, ⟨10, _⟩ => ⟨S128x512, .bf16⟩
  | .hbm, ⟨11, _⟩ => ⟨S128x384, .bf16⟩
  | .hbm, ⟨12, _⟩ => ⟨S1x128, .f32⟩
  | .hbm, ⟨13, _⟩ => ⟨S1x1024, .f32⟩
  | .hbm, ⟨14, _⟩ => ⟨S1x256, .f32⟩
  | .hbm, ⟨15, _⟩ => ⟨S1x128, .f32⟩
  | .hbm, ⟨16, _⟩ => ⟨S16384x2176, .f32⟩
  | .hbm, ⟨17, _⟩ => ⟨S16384x512, .bf16⟩
  | .hbm, ⟨18, _⟩ => ⟨S2x512x8192, .bf16⟩
  | .hbm, ⟨19, _⟩ => ⟨S2x320x8192, .bf16⟩
  | .hbm, ⟨20, _⟩ => ⟨S2x512x8192, .bf16⟩
  | .hbm, ⟨21, _⟩ => ⟨S16384x512, .bf16⟩
  | .hbm, ⟨22, _⟩ => ⟨S2x320x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3328, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x256, .f32⟩
  | .local _ .vmem, ⟨13, _⟩ => ⟨S256x1024, .bf16⟩
  | .local _ .vmem, ⟨14, _⟩ => ⟨S1x128, .f32⟩
  | .local _ .vmem, ⟨15, _⟩ => ⟨S128x512, .bf16⟩
  | .local _ .vmem, ⟨16, _⟩ => ⟨S128x384, .bf16⟩
  | .local _ .vmem, ⟨17, _⟩ => ⟨S1x128, .f32⟩
  | .local _ .vmem, ⟨18, _⟩ => ⟨S512x2176, .f32⟩
  | .local _ .vmem, ⟨19, _⟩ => ⟨S512x2176, .f32⟩
  | .local _ .vmem, ⟨20, _⟩ => ⟨S512x512, .bf16⟩
  | .local _ .vmem, ⟨21, _⟩ => ⟨S512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x320x512, .bf16⟩
  | .local _ .vmem, ⟨25, _⟩ => ⟨S1x320x512, .bf16⟩
  | .local _ .vmem, ⟨26, _⟩ => ⟨S1x512x512, .bf16⟩
  | .local _ .vmem, ⟨27, _⟩ => ⟨S1x512x512, .bf16⟩
  | .local _ .vmem, ⟨28, _⟩ => ⟨S512x512, .bf16⟩
  | .local _ .vmem, ⟨29, _⟩ => ⟨S512x512, .bf16⟩
  | .local _ .vmem, ⟨30, _⟩ => ⟨S1x320x512, .bf16⟩
  | .local _ .vmem, ⟨31, _⟩ => ⟨S1x320x512, .bf16⟩
  | .local _ .vmem, ⟨32, _⟩ => ⟨S32x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v3_4 : Ref sig .tc := ⟨.hbm, 20, rfl⟩
abbrev main_v3_5 : Ref sig .tc := ⟨.hbm, 21, rfl⟩
abbrev main_v3_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![32], ![false]⟩

def k0_off1 (i : grid0.Coords) (c0_i32_49 : BitVec 32) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32 : BitVec 32 := 2#32
  let v85 : BitVec 32 := Scalar.muli v9 c2_i32
  let v86 : BitVec 32 := Scalar.addi v85 c0_i32_49
  let v91 : Index := Scalar.indexCast v86
  let c0_52 : Index := 0#32
  ![v91.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2176 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x320x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x320x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S16384x1024 : Shape := ⟨2, ![16384, 1024]⟩
abbrev S1024 : Shape := ⟨1, ![1024]⟩
abbrev S2x1024x3328 : Shape := ⟨3, ![2, 1024, 3328]⟩
abbrev S16384x128 : Shape := ⟨2, ![16384, 128]⟩
abbrev S2x128x8192 : Shape := ⟨3, ![2, 128, 8192]⟩
abbrev S256 : Shape := ⟨1, ![256]⟩
abbrev S256x1024 : Shape := ⟨2, ![256, 1024]⟩
abbrev S128 : Shape := ⟨1, ![128]⟩
abbrev S128x512 : Shape := ⟨2, ![128, 512]⟩
abbrev S128x384 : Shape := ⟨2, ![128, 384]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x2176 : Shape := ⟨3, ![1, 1024, 2176]⟩
abbrev S1024x2176 : Shape := ⟨2, ![1024, 2176]⟩
abbrev S16384x2176 : Shape := ⟨2, ![16384, 2176]⟩
abbrev S1x1024x256 : Shape := ⟨3, ![1, 1024, 256]⟩
abbrev S1024x256 : Shape := ⟨2, ![1024, 256]⟩
abbrev S16384x256 : Shape := ⟨2, ![16384, 256]⟩
abbrev S16384x4x64 : Shape := ⟨3, ![16384, 4, 64]⟩
abbrev S2x32x256x4x64 : Shape := ⟨5, ![2, 32, 256, 4, 64]⟩
abbrev S16384x4x128 : Shape := ⟨3, ![16384, 4, 128]⟩
abbrev S16384x512 : Shape := ⟨2, ![16384, 512]⟩
abbrev S2x8192x4x64 : Shape := ⟨4, ![2, 8192, 4, 64]⟩
abbrev S2x8192x4x1 : Shape := ⟨4, ![2, 8192, 4, 1]⟩
abbrev S2x8192x4x15 : Shape := ⟨4, ![2, 8192, 4, 15]⟩
abbrev S2x8192x4x80 : Shape := ⟨4, ![2, 8192, 4, 80]⟩
abbrev S2x8192x320 : Shape := ⟨3, ![2, 8192, 320]⟩
abbrev S2x320x8192 : Shape := ⟨3, ![2, 320, 8192]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x3328, .bf16⟩
  | .hbm, ⟨3, _⟩ => ⟨S16384x128, .f32⟩
  | .hbm, ⟨4, _⟩ => ⟨S16384x128, .f32⟩
  | .hbm, ⟨5, _⟩ => ⟨S2x128x8192, .f32⟩
  | .hbm, ⟨6, _⟩ => ⟨S2x128x8192, .f32⟩
  | .hbm, ⟨7, _⟩ => ⟨S256, .f32⟩
  | .hbm, ⟨8, _⟩ => ⟨S256x1024, .bf16⟩
  | .hbm, ⟨9, _⟩ => ⟨S128, .f32⟩
  | .hbm, ⟨10, _⟩ => ⟨S128x512, .bf16⟩
  | .hbm, ⟨11, _⟩ => ⟨S128x384, .bf16⟩
  | .hbm, ⟨12, _⟩ => ⟨S1x128, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024x2176, .bf16⟩
  | .hbm, ⟨30, _⟩ => ⟨S1024x2176, .bf16⟩
  | .hbm, ⟨31, _⟩ => ⟨S1024x2176, .f32⟩
  | .hbm, ⟨32, _⟩ => ⟨S16384x2176, .f32⟩
  | .hbm, ⟨33, _⟩ => ⟨S1x1024x256, .bf16⟩
  | .hbm, ⟨34, _⟩ => ⟨S1024x256, .bf16⟩
  | .hbm, ⟨35, _⟩ => ⟨S1024x256, .f32⟩
  | .hbm, ⟨36, _⟩ => ⟨S16384x256, .f32⟩
  | .hbm, ⟨37, _⟩ => ⟨S16384x4x64, .f32⟩
  | .hbm, ⟨38, _⟩ => ⟨S2x32x256x4x64, .i32⟩
  | .hbm, ⟨39, _⟩ => ⟨S2x32x256x4x64, .i32⟩
  | .hbm, ⟨40, _⟩ => ⟨S2x32x256x4x64, .i1⟩
  | .hbm, ⟨41, _⟩ => ⟨S2x32x256x4x64, .f32⟩
  | .hbm, ⟨42, _⟩ => ⟨S16384x4x64, .f32⟩
  | .hbm, ⟨43, _⟩ => ⟨S16384x4x128, .f32⟩
  | .hbm, ⟨44, _⟩ => ⟨S16384x512, .f32⟩
  | .hbm, ⟨45, _⟩ => ⟨S1x1024x256, .bf16⟩
  | .hbm, ⟨46, _⟩ => ⟨S1024x256, .bf16⟩
  | .hbm, ⟨47, _⟩ => ⟨S1024x256, .f32⟩
  | .hbm, ⟨48, _⟩ => ⟨S16384x256, .f32⟩
  | .hbm, ⟨49, _⟩ => ⟨S2x8192x4x64, .f32⟩
  | .hbm, ⟨50, _⟩ => ⟨S_, .f32⟩
  | .hbm, ⟨51, _⟩ => ⟨S2x8192x4x1, .f32⟩
  | .hbm, ⟨52, _⟩ => ⟨S_, .f32⟩
  | .hbm, ⟨53, _⟩ => ⟨S2x8192x4x15, .f32⟩
  | .hbm, ⟨54, _⟩ => ⟨S2x8192x4x80, .f32⟩
  | .hbm, ⟨55, _⟩ => ⟨S2x8192x320, .f32⟩
  | .hbm, ⟨56, _⟩ => ⟨S2x320x8192, .f32⟩
  | .hbm, ⟨57, _⟩ => ⟨S16384x512, .bf16⟩
  | .hbm, ⟨58, _⟩ => ⟨S2x320x8192, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Program.lean ====
/-
  The experts' kernel, restated as a short program: one block of 128 gathered rows is the same program at every block offset
  (`block`), the eight blocks of a group follow one another under their own conditions, and the routing tables are made before
  the first group of a tile. The two theorems at the end say that the kernel's body IS that program.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.Sem

variable {F : FTy → Type} [FloatOps F]

/-- The rows `lo … lo+127` of a 1024-row array lie inside it. -/
theorem rows_inb (lo : ℕ) (hlo : lo + 128 ≤ 1024) : ∀ a, (![lo, 0] : Fin 2 → Nat) a + S128x1024.size a ≤ S1024x1024.size a := by
  intro a; fin_cases a
  · exact hlo
  · exact Nat.le_refl _
/-- The same for an array of 128 columns. -/
theorem rows_inb' (lo : ℕ) (hlo : lo + 128 ≤ 1024) : ∀ a, (![lo, 0] : Fin 2 → Nat) a + S128x128.size a ≤ S1024x128.size a := by
  intro a; fin_cases a
  · exact hlo
  · exact Nat.le_refl _

/-- Rows `lo … lo+127` of a 1024×1024 array, as a rectangle. -/
abbrev rows (lo : ℕ) (hlo : lo + 128 ≤ 1024) : Rect S1024x1024 := Rect.unit (s := S1024x1024) ![lo, 0] S128x1024.size (rows_inb lo hlo)
/-- Rows `lo … lo+127` of a 1024×128 array, as a rectangle. -/
abbrev rows' (lo : ℕ) (hlo : lo + 128 ≤ 1024) : Rect S1024x128 := Rect.unit (s := S1024x128) ![lo, 0] S128x128.size (rows_inb' lo hlo)

/-- Expert `j`'s matrix of a group's four up-projections, as rectangles of the group's array. -/
abbrev up0 : Rect S4x1024x256 := Rect.unit (s := S4x1024x256) ![0, 0, 0] S1x1024x256.size inb_S4x1024x256_S1x1024x256_0_0_0
abbrev up1 : Rect S4x1024x256 := Rect.unit (s := S4x1024x256) ![1, 0, 0] S1x1024x256.size inb_S4x1024x256_S1x1024x256_1_0_0
abbrev up2 : Rect S4x1024x256 := Rect.unit (s := S4x1024x256) ![2, 0, 0] S1x1024x256.size inb_S4x1024x256_S1x1024x256_2_0_0
abbrev up3 : Rect S4x1024x256 := Rect.unit (s := S4x1024x256) ![3, 0, 0] S1x1024x256.size inb_S4x1024x256_S1x1024x256_3_0_0
/-- Expert `j`'s matrix of a group's four down-projections. -/
abbrev dn0 : Rect S4x256x1024 := Rect.unit (s := S4x256x1024) ![0, 0, 0] S1x256x1024.size inb_S4x256x1024_S1x256x1024_0_0_0
abbrev dn1 : Rect S4x256x1024 := Rect.unit (s := S4x256x1024) ![1, 0, 0] S1x256x1024.size inb_S4x256x1024_S1x256x1024_1_0_0
abbrev dn2 : Rect S4x256x1024 := Rect.unit (s := S4x256x1024) ![2, 0, 0] S1x256x1024.size inb_S4x256x1024_S1x256x1024_2_0_0
abbrev dn3 : Rect S4x256x1024 := Rect.unit (s := S4x256x1024) ![3, 0, 0] S1x256x1024.size inb_S4x256x1024_S1x256x1024_3_0_0

/-- Column numbers of a 128×128 tile. -/
abbrev lanes : IVec S128x128 32 := iota .tc S128x128 32 [1] iota_S128x128_d1_w32
/-- Column numbers of a 1024×128 tile. -/
abbrev lanesT : IVec S1024x128 32 := iota .tc S1024x128 32 [1] iota_S1024x128_d1_w32

/-- What one block of a group adds up to: the 128 accumulator rows `y` plus the four experts' weighted outputs on the 128
    gathered rows `x` with gathered combine weights `cw`. -/
def stepVal (g : BitVec 32) (ln : IVec S128x128 32) (x : Vec F S128x1024 .bf16) (cw : Vec F S128x128 .f32)
    (g0 u0 g1 u1 : Vec F S1x1024x256 .bf16) (d0 : Vec F S1x256x1024 .bf16) (g2 u2 : Vec F S1x1024x256 .bf16)
    (d1 : Vec F S1x256x1024 .bf16) (g3 u3 : Vec F S1x1024x256 .bf16) (d2 d3 : Vec F S1x256x1024 .bf16)
    (y : Vec F S128x1024 .f32) : FVec F S128x1024 .f32 :=
  k0_pay140 (k0_pay49 x g3) (k0_pay50 x u3)
    (k0_pay51 g ln cw (k0_pay46 x g2) (k0_pay47 x u2)
      (k0_pay48 g ln cw k0_pay41 (k0_pay42 x g1) (k0_pay43 x u1) (k0_pay44 g ln cw) (k0_pay45 x g0 u0) d0 d1) d2)
    (k0_pay52 g ln cw) d3 y

/-- One block's run at row offset `lo`, when its condition `b` holds, then `k`. -/
def block {α : Type} (g : BitVec 32) (ln : IVec S128x128 32)
    (arg6 arg7 : Memref sig .tc .vmem S4x1024x256 .bf16) (arg8 : Memref sig .tc .vmem S4x256x1024 .bf16)
    (arg12 : Memref sig .tc .vmem S1024x1024 .bf16) (arg13 : Memref sig .tc .vmem S1024x128 .f32)
    (arg14 : Memref sig .tc .vmem S1024x1024 .f32) (b : BitVec 1) (lo : ℕ) (hlo : lo + 128 ≤ 1024)
    (k : Unit → Prog (TpuEff nD τ sig (Elt F) Λ₀ .tc) α) : Prog (TpuEff nD τ sig (Elt F) Λ₀ .tc) α :=
  if b = 1#1 then do
    let x ← Prog.lift (.load arg12 (rows lo hlo).toLoadRect (View.loadsAt_vmem h_S128x1024))
    let cw ← Prog.lift (.load arg13 (rows' lo hlo).toLoadRect (View.loadsAt_vmem h_S128x128))
    let g0 ← Prog.lift (.load arg6 up0.toLoadRect (View.loadsAt_vmem h_S1x1024x256))
    let u0 ← Prog.lift (.load arg7 up0.toLoadRect (View.loadsAt_vmem h_S1x1024x256))
    let g1 ← Prog.lift (.load arg6 up1.toLoadRect (View.loadsAt_vmem h_S1x1024x256))
    let u1 ← Prog.lift (.load arg7 up1.toLoadRect (View.loadsAt_vmem h_S1x1024x256))
    let d0 ← Prog.lift (.load arg8 dn0.toLoadRect (View.loadsAt_vmem h_S1x256x1024))
    let g2 ← Prog.lift (.load arg6 up2.toLoadRect (View.loadsAt_vmem h_S1x1024x256))
    let u2 ← Prog.lift (.load arg7 up2.toLoadRect (View.loadsAt_vmem h_S1x1024x256))
    let d1 ← Prog.lift (.load arg8 dn1.toLoadRect (View.loadsAt_vmem h_S1x256x1024))
    let g3 ← Prog.lift (.load arg6 up3.toLoadRect (View.loadsAt_vmem h_S1x1024x256))
    let u3 ← Prog.lift (.load arg7 up3.toLoadRect (View.loadsAt_vmem h_S1x1024x256))
    let d2 ← Prog.lift (.load arg8 dn2.toLoadRect (View.loadsAt_vmem h_S1x256x1024))
    let d3 ← Prog.lift (.load arg8 dn3.toLoadRect (View.loadsAt_vmem h_S1x256x1024))
    let y ← Prog.lift (.load arg14 (rows lo hlo).toLoadRect (View.loadsAt_vmem h_S128x1024))
    let _y ← Prog.lift (.load arg14 (rows lo hlo).toLoadRect (View.loadsAt_vmem h_S128x1024))
    Prog.lift (.store arg14 (rows lo hlo) (stepVal g ln x cw g0 u0 g1 u1 d0 g2 u2 d1 g3 u3 d2 d3 y) Finset.univ
      (View.stores_vmem_bits_univ h_S128x1024 rfl) (.inl rfl))
    k ⟨⟩
  else k ⟨⟩

/-- The condition under which the group whose rows are `[start, stop)` runs the block whose rows are `[lo, hi)`. -/
def meets (start stop lo hi : BitVec 32) : BitVec 32 :=
  Scalar.extui (Scalar.andi (Scalar.cmpi .slt start hi) (Scalar.cmpi .sgt stop lo))
def runs (start stop lo hi : BitVec 32) : BitVec 1 := Scalar.cmpi .ne (meets start stop lo hi) 0#32

section Body
variable (i : grid0.Coords)
    (arg2 : Memref sig .tc .vmem S1024x1024 .bf16) (harg2 : arg2.IsWhole) (arg3 : Memref sig .tc .vmem S1024x128 .f32) (harg3 : arg3.IsWhole)
    (arg4 : Memref sig .tc .vmem S1024x1024 .f32) (harg4 : arg4.IsWhole) (arg5 : Memref sig .tc .vmem S128x128 .bf16) (harg5 : arg5.IsWhole)
    (arg6 : Memref sig .tc .vmem S4x1024x256 .bf16) (harg6 : arg6.IsWhole) (arg7 : Memref sig .tc .vmem S4x1024x256 .bf16) (harg7 : arg7.IsWhole)
    (arg8 : Memref sig .tc .vmem S4x256x1024 .bf16) (harg8 : arg8.IsWhole) (arg9 : Memref sig .tc .vmem S1x1024 .f32) (harg9 : arg9.IsWhole)
    (arg10 : Memref sig .tc .vmem S1024x1024 .f32) (harg10 : arg10.IsWhole) (arg11 : Memref sig .tc .vmem S1024x1024 .bf16) (harg11 : arg11.IsWhole)
    (arg12 : Memref sig .tc .vmem S1024x1024 .bf16) (harg12 : arg12.IsWhole) (arg13 : Memref sig .tc .vmem S1024x128 .f32) (harg13 : arg13.IsWhole)
    (arg14 : Memref sig .tc .vmem S1024x1024 .f32) (harg14 : arg14.IsWhole) (arg15 : Memref sig .tc .smem S8 .i32) (harg15 : arg15.IsWhole)

/-- Whether the group is its tile's first, as the kernel computes it. -/
def firstCond : BitVec 1 := Scalar.cmpi .ne (Scalar.extui (Scalar.cmpi .eq (BitVec.ofNat 32 (i 1).val) 0#32) : BitVec 32) 0#32

/-- When the group is the tile's first: the routing tables (the permutation, the gathered rows and weights, the groups' words)
    are made and the accumulator is cleared; then `k`. -/
def tables {α : Type} (k : Unit → Prog (TpuEff nD τ sig (Elt F) Λ₀ .tc) α) : Prog (TpuEff nD τ sig (Elt F) Λ₀ .tc) α :=
  if firstCond i = 1#1 then do
    let ⟨v54, v66, v67, v74, v81, v88, v89, v93⟩ ← k0_part1 i arg2 harg2 arg3 harg3 arg4 harg4 arg5 harg5 arg6 harg6 arg7 harg7 arg8 harg8 arg9 harg9 arg10 harg10 arg11 harg11 arg12 harg12 arg13 harg13 arg14 harg14 arg15 harg15 lanesT
    let ⟨v124, v125, v126, v128, v135, v137⟩ ← k0_part2 i arg2 harg2 arg3 harg3 arg4 harg4 arg5 harg5 arg6 harg6 arg7 harg7 arg8 harg8 arg9 harg9 arg10 harg10 arg11 harg11 arg12 harg12 arg13 harg13 arg14 harg14 arg15 harg15 lanesT v67 v74 v81 v88 v89 v93
    let ⟨v167, v176, v178, cst_55, v179⟩ ← k0_part3 i arg2 harg2 arg3 harg3 arg4 harg4 arg5 harg5 arg6 harg6 arg7 harg7 arg8 harg8 arg9 harg9 arg10 harg10 arg11 harg11 arg12 harg12 arg13 harg13 arg14 harg14 arg15 harg15 v124 v126 v128 v135 v137
    let ⟨v221, v223⟩ ← k0_part4 i arg2 harg2 arg3 harg3 arg4 harg4 arg5 harg5 arg6 harg6 arg7 harg7 arg8 harg8 arg9 harg9 arg10 harg10 arg11 harg11 arg12 harg12 arg13 harg13 arg14 harg14 arg15 harg15 v66 v124 v125 v167 v176 v178 cst_55 v179
    let _ ← Prog.lift (.load arg12 (Rect.unit (s := S1024x1024) ![0, 0] S1024x1024.size inb_S1024x1024_S1024x1024_0_0).toLoadRect (View.loadsAt_vmem h_S1024x1024))
    Prog.lift (.store arg12 (Rect.unit (s := S1024x1024) ![0, 0] S1024x1024.size inb_S1024x1024_S1024x1024_0_0) (k0_pay137 v223) Finset.univ (View.stores_vmem h_S1024x1024 (harg12.storeExact_slice rfl _ packedbf16_S1024x1024_S1024x1024_0_0) (fun _ => rfl)) (.inl rfl))
    let _ ← Prog.lift (.load arg13 (Rect.unit (s := S1024x128) ![0, 0] S1024x128.size inb_S1024x128_S1024x128_0_0).toLoadRect (View.loadsAt_vmem h_S1024x128))
    Prog.lift (.store arg13 (Rect.unit (s := S1024x128) ![0, 0] S1024x128.size inb_S1024x128_S1024x128_0_0) (k0_pay138 v54 v221) Finset.univ (View.stores_vmem_bits_univ h_S1024x128 rfl) (.inl rfl))
    let _ ← Prog.lift (.load arg14 (Rect.unit (s := S1024x1024) ![0, 0] S1024x1024.size inb_S1024x1024_S1024x1024_0_0).toLoadRect (View.loadsAt_vmem h_S1024x1024))
    Prog.lift (.store arg14 (Rect.unit (s := S1024x1024) ![0, 0] S1024x1024.size inb_S1024x1024_S1024x1024_0_0) (k0_pay139 (F := F)) Finset.univ (View.stores_vmem_bits_univ h_S1024x1024 rfl) (.inl rfl))
    k ()
  else k ()

/-- The group's two words, its first position and its size, then `k` at them. -/
def words {α : Type} (k : BitVec 32 → BitVec 32 → Prog (TpuEff nD τ sig (Elt F) Λ₀ .tc) α) : Prog (TpuEff nD τ sig (Elt F) Λ₀ .tc) α := do
  let s : Elt F .i32 ← smemLoad arg15 (Rect.unit (s := S8) (k0_off1 i) S1.size (k0_off1_inb i)) numel1_S1 rfl
  let n : Elt F .i32 ← smemLoad arg15 (Rect.unit (s := S8) (k0_off2 i) S1.size (k0_off2_inb i)) numel1_S1 rfl
  k s n

/-- The group's two words, and its blocks at rows 0, 128, 256, 384. -/
def groupBlocks : Prog (TpuEff nD τ sig (Elt F) Λ₀ .tc)
    (Σ' (arg1 : BitVec 32) (v5 : Elt F .i32) (v9 : BitVec 32) (v10 : IVec S128x128 32) (v34 : BitVec 32), BitVec 32) :=
  words i arg15 fun s n =>
    block (BitVec.ofNat 32 (i 1).val) lanes arg6 arg7 arg8 arg12 arg13 arg14 (runs s (Scalar.addi s n) 0#32 128#32) 0 (by decide) fun _ =>
    block (BitVec.ofNat 32 (i 1).val) lanes arg6 arg7 arg8 arg12 arg13 arg14 (runs s (Scalar.addi s n) 128#32 256#32) 128 (by decide) fun _ =>
    block (BitVec.ofNat 32 (i 1).val) lanes arg6 arg7 arg8 arg12 arg13 arg14 (runs s (Scalar.addi s n) 256#32 384#32) 256 (by decide) fun _ =>
    block (BitVec.ofNat 32 (i 1).val) lanes arg6 arg7 arg8 arg12 arg13 arg14 (runs s (Scalar.addi s n) 384#32 512#32) 384 (by decide) fun _ =>
    pure ⟨BitVec.ofNat 32 (i 1).val, s, Scalar.addi s n, lanes, meets s (Scalar.addi s n) 512#32 640#32, 0#32⟩

/-- The first half of a point's run: the routing tables when the group is the tile's first, then `groupBlocks`. -/
def firstHalf : Prog (TpuEff nD τ sig (Elt F) Λ₀ .tc)
    (Σ' (arg1 : BitVec 32) (v5 : Elt F .i32) (v9 : BitVec 32) (v10 : IVec S128x128 32) (v34 : BitVec 32), BitVec 32) :=
  tables i arg2 harg2 arg3 harg3 arg4 harg4 arg5 harg5 arg6 harg6 arg7 harg7 arg8 harg8 arg9 harg9 arg10 harg10 arg11 harg11 arg12 harg12 arg13 harg13 arg14 harg14 arg15 harg15 fun _ =>
    groupBlocks i arg6 arg7 arg8 arg12 arg13 arg14 arg15

/-- What a tile's last group does at its end: the accumulator, put back in token order, added to the residual and normalised. -/
def finish : Prog (TpuEff nD τ sig (Elt F) Λ₀ .tc) PUnit :=
  if k0_cond10 i = 1#1 then do
    let xn ← Prog.lift (.load arg4 (Rect.unit (s := S1024x1024) ![0, 0] S1024x1024.size inb_S1024x1024_S1024x1024_0_0).toLoadRect (View.loadsAt_vmem h_S1024x1024))
    let perm ← Prog.lift (.load arg11 (Rect.unit (s := S1024x1024) ![0, 0] S1024x1024.size inb_S1024x1024_S1024x1024_0_0).toLoadRect (View.loadsAt_vmem h_S1024x1024))
    let ys ← Prog.lift (.load arg14 (Rect.unit (s := S1024x1024) ![0, 0] S1024x1024.size inb_S1024x1024_S1024x1024_0_0).toLoadRect (View.loadsAt_vmem h_S1024x1024))
    let gf ← Prog.lift (.load arg9 (Rect.unit (s := S1x1024) ![0, 0] S1x1024.size inb_S1x1024_S1x1024_0_0).toLoadRect (View.loadsAt_vmem h_S1x1024))
    let _ ← Prog.lift (.load arg10 (Rect.unit (s := S1024x1024) ![0, 0] S1024x1024.size inb_S1024x1024_S1024x1024_0_0).toLoadRect (View.loadsAt_vmem h_S1024x1024))
    Prog.lift (.store arg10 (Rect.unit (s := S1024x1024) ![0, 0] S1024x1024.size inb_S1024x1024_S1024x1024_0_0) (k0_pay5 xn perm ys gf) Finset.univ (View.stores_vmem_bits_univ h_S1024x1024 rfl) (.inl rfl))
    pure ⟨⟩
  else pure ⟨⟩

/-- The first half of the kernel's body is `firstHalf`. -/
theorem part29_eq : k0_part29 (F := F) i arg2 harg2 arg3 harg3 arg4 harg4 arg5 harg5 arg6 harg6 arg7 harg7 arg8 harg8 arg9 harg9 arg10 harg10 arg11 harg11 arg12 harg12 arg13 harg13 arg14 harg14 arg15 harg15
    = firstHalf i arg2 harg2 arg3 harg3 arg4 harg4 arg5 harg5 arg6 harg6 arg7 harg7 arg8 harg8 arg9 harg9 arg10 harg10 arg11 harg11 arg12 harg12 arg13 harg13 arg14 harg14 arg15 harg15 := by
  rw [k0_part29_eq_skeleton]; rfl

/-- The second half of a point's run: the blocks at rows 512, 640, 768, 896, and the tile's end. -/
def secondHalf (r : Σ' (arg1 : BitVec 32) (v5 : Elt F .i32) (v9 : BitVec 32) (v10 : IVec S128x128 32) (v34 : BitVec 32), BitVec 32) :
    Prog (TpuEff nD τ sig (Elt F) Λ₀ .tc) PUnit :=
  block r.1 r.2.2.2.1 arg6 arg7 arg8 arg12 arg13 arg14 (Scalar.cmpi .ne r.2.2.2.2.1 r.2.2.2.2.2) 512 (by decide) fun _ =>
    block r.1 r.2.2.2.1 arg6 arg7 arg8 arg12 arg13 arg14 (runs r.2.1 r.2.2.1 640#32 768#32) 640 (by decide) fun _ =>
    block r.1 r.2.2.2.1 arg6 arg7 arg8 arg12 arg13 arg14 (runs r.2.1 r.2.2.1 768#32 896#32) 768 (by decide) fun _ =>
    block r.1 r.2.2.2.1 arg6 arg7 arg8 arg12 arg13 arg14 (runs r.2.1 r.2.2.1 896#32 1024#32) 896 (by decide) fun _ =>
    finish i arg4 arg9 arg10 arg11 arg14

/-- The kernel's body: its first half, then its second. -/
theorem body_eq : cc0_moe (F := F) i arg2 harg2 arg3 harg3 arg4 harg4 arg5 harg5 arg6 harg6 arg7 harg7 arg8 harg8 arg9 harg9 arg10 harg10 arg11 harg11 arg12 harg12 arg13 harg13 arg14 harg14 arg15 harg15
    = (firstHalf i arg2 harg2 arg3 harg3 arg4 harg4 arg5 harg5 arg6 harg6 arg7 harg7 arg8 harg8 arg9 harg9 arg10 harg10 arg11 harg11 arg12 harg12 arg13 harg13 arg14 harg14 arg15 harg15 >>= secondHalf i arg4 arg6 arg7 arg8 arg9 arg10 arg11 arg12 arg13 arg14) := by
  rw [cc0_moe_eq_skeleton]; unfold cc0_moe_skel; rw [part29_eq]; rfl
end Body

end Cert.KernelIdeal.Moe

end
-- ==== Proof.Block.lean ====
/-
  One block's run: what it leaves in the accumulator.
-/
module

public import proofs.«01_k».proof.Proof.Program

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a block at rows `lo …` makes of the accumulator `y`, from the group's matrices and the gathered rows and weights. -/
def blockVal (g : BitVec 32) (ln : IVec S128x128 32) (wg wu : Vec F S4x1024x256 .bf16) (wd : Vec F S4x256x1024 .bf16)
    (hs : Vec F S1024x1024 .bf16) (cs : Vec F S1024x128 .f32) (lo : ℕ) (hlo : lo + 128 ≤ 1024) (y : Vec F S1024x1024 .f32) :
    Vec F S128x1024 .f32 :=
  stepVal g ln (View.ld hs (rows lo hlo)) (View.ld cs (rows' lo hlo)) (View.ld wg up0) (View.ld wu up0) (View.ld wg up1)
    (View.ld wu up1) (View.ld wd dn0) (View.ld wg up2) (View.ld wu up2) (View.ld wd dn1) (View.ld wg up3) (View.ld wu up3)
    (View.ld wd dn2) (View.ld wd dn3) (View.ld y (rows lo hlo))

/-- The accumulator after a block whose condition is `b`. -/
def blockAfter (g : BitVec 32) (ln : IVec S128x128 32) (wg wu : Vec F S4x1024x256 .bf16) (wd : Vec F S4x256x1024 .bf16)
    (hs : Vec F S1024x1024 .bf16) (cs : Vec F S1024x128 .f32) (b : BitVec 1) (lo : ℕ) (hlo : lo + 128 ≤ 1024)
    (y : Vec F S1024x1024 .f32) : Vec F S1024x1024 .f32 :=
  if b = 1#1 then (rows lo hlo).overlay y (blockVal g ln wg wu wd hs cs lo hlo y) else y

/-- Storing a rectangle over a buffer read as `y` leaves the buffer reading as `y` overlaid by the stored values. -/
theorem read_store {κ : Kind} {sp : Space} {s : Shape} {e : EltTy} {Val : EltTy → Type} (v : View sig κ sp s e) (f : v.ty.Contents Val) (r : Rect s)
    (w : r.shape.Idx → Val e) :
    v.read Val (v.writes Val f [⟨r, w⟩]) = r.overlay (v.read Val f) w := by
  funext j
  by_cases h : j ∈ r.set
  · obtain ⟨x, rfl⟩ : ∃ x, r.emb x = j := by simpa [← Rect.map_emb_univ] using h
    rw [Rect.overlay_emb]; exact View.read_writes_cons_emb v f r w [] x
  · rw [Rect.overlay_of_not_mem _ _ _ h, View.writes_cons]
    exact (View.read_slice_write_of_not_mem _ _ _ _ (by rw [Rect.map_emb_univ]; exact h)).trans rfl

section
variable {α : Type} (c : Dev nD) (g : BitVec 32) (ln : IVec S128x128 32)
    (arg6 arg7 : Memref sig .tc .vmem S4x1024x256 .bf16) (arg8 : Memref sig .tc .vmem S4x256x1024 .bf16)
    (arg12 : Memref sig .tc .vmem S1024x1024 .bf16) (arg13 : Memref sig .tc .vmem S1024x128 .f32)
    (arg14 : Memref sig .tc .vmem S1024x1024 .f32) (b : BitVec 1) (lo : ℕ) (hlo : lo + 128 ≤ 1024)
    (k : Unit → Prog (TpuEff nD τ sig (Elt F) Λ₀ .tc) α)
    (wg wu : Vec F S4x1024x256 .bf16) (wd : Vec F S4x256x1024 .bf16)
    (hs : Vec F S1024x1024 .bf16) (cs : Vec F S1024x128 .f32) (y : Vec F S1024x1024 .f32)

/-- A block's run, then whatever follows: the group's matrices, the gathered rows and their weights are left as they were, the
    accumulator is `blockAfter`. -/
theorem wp_block (Q : α → sProp 𝕄) :
    iprop(owns (c : Thread nD τ) arg6 fullShare wg ∗ owns (c : Thread nD τ) arg7 fullShare wu ∗ owns (c : Thread nD τ) arg8 fullShare wd
        ∗ owns (c : Thread nD τ) arg12 fullShare hs ∗ owns (c : Thread nD τ) arg13 fullShare cs ∗ owns (c : Thread nD τ) arg14 fullShare y
        ∗ (iprop(owns (c : Thread nD τ) arg6 fullShare wg ∗ owns (c : Thread nD τ) arg7 fullShare wu ∗ owns (c : Thread nD τ) arg8 fullShare wd
            ∗ owns (c : Thread nD τ) arg12 fullShare hs ∗ owns (c : Thread nD τ) arg13 fullShare cs
            ∗ owns (c : Thread nD τ) arg14 fullShare (blockAfter g ln wg wu wd hs cs b lo hlo y))
            -∗ wp frame (wpE (defs₀ (F := F)) Variants.none c none) Set.univ (k ()) Q))
      ⊢ wp frame (wpE (defs₀ (F := F)) Variants.none c none) Set.univ
          (block g ln arg6 arg7 arg8 arg12 arg13 arg14 b lo hlo k) Q := by
  unfold block blockAfter
  by_cases hb : b = 1#1
  · rw [if_pos hb, if_pos hb]
    unfold owns
    iintro ⟨⟨%f6, %h6, H6⟩, ⟨%f7, %h7, H7⟩, ⟨%f8, %h8, H8⟩, ⟨%f12, %h12, H12⟩, ⟨%f13, %h13, H13⟩, ⟨%f14, %h14, H14⟩, Hk⟩
    sl_exec
    iapply Hk
    isplitl [H6]; · iexists f6; isplitr; · ipureintro; exact h6
                    iexact H6
    isplitl [H7]; · iexists f7; isplitr; · ipureintro; exact h7
                    iexact H7
    isplitl [H8]; · iexists f8; isplitr; · ipureintro; exact h8
                    iexact H8
    isplitl [H12]; · iexists f12; isplitr; · ipureintro; exact h12
                     iexact H12
    isplitl [H13]; · iexists f13; isplitr; · ipureintro; exact h13
                     iexact H13
    iexists _; isplitr; swap; · iexact H14
    ipureintro
    rw [read_store]
    subst h6 h7 h8 h12 h13 h14
    rfl
  · rw [if_neg hb, if_neg hb]
    iintro ⟨H6, H7, H8, H12, H13, H14, Hk⟩
    iapply Hk
    isplitl [H6]; · iexact H6
    isplitl [H7]; · iexact H7
    isplitl [H8]; · iexact H8
    isplitl [H12]; · iexact H12
    isplitl [H13]; · iexact H13
    iexact H14

end
end Cert.KernelIdeal.Moe

end
-- ==== Proof.Tables.lean ====
/-
  The tile's routing tables: what they hold, as functions of the tile's inputs, and the run that makes them.
-/
module

public import proofs.«01_k».proof.Proof.Block
public import Idealize.ShloMosaic.Lib.Pipeline.Value
public import Idealize.ShloMosaic.Lib.WritesUnit
public import Idealize.ShloMosaic.Lib.CellWrites

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables as functions of the tile's combine weights, the triangle and the tile's rows -/

variable (cb : Vec F S1024x128 .f32) (tri : Vec F S128x128 .bf16) (h : Vec F S1024x1024 .bf16)

/-- The one-hot rows of the tokens' groups (token by group column). -/
def onehot : FVec F S1024x128 .f32 := k0_pay6 lanesT cb
/-- The running count of the tokens of each group, after the first four chunks of 128 tokens. -/
def runTot4 : FVec F S1x128 .f32 := k0_pay11 lanesT cb tri tri tri
/-- The number of the tile's tokens in each group. -/
def total : FVec F S1x128 .f32 :=
  k0_pay18 (k0_pay7 lanesT cb) (runTot4 cb tri) (k0_pay12 lanesT cb tri) tri tri tri tri
/-- For every token and group, the number of the tokens up to that one which are of the group. -/
def prefixes : FVec F S1024x128 .f32 :=
  k0_pay19 (k0_pay7 lanesT cb) (k0_pay8 lanesT cb tri) (k0_pay9 lanesT cb tri tri) (k0_pay10 lanesT cb tri tri tri)
    (runTot4 cb tri) (k0_pay12 lanesT cb tri) tri tri tri tri
/-- For groups 1 to 3, the sum of the sizes of the groups before, put on the group's column. -/
def bases : FVec F S1x128 .f32 := k0_pay29 (total cb tri) (k0_pay20 lanesT) k0_pay21 (k0_pay22 lanesT)
/-- The permutation, token by position, in the order it is applied at the tile's end. -/
def permT : FVec F S1024x1024 .bf16 :=
  k0_pay38 (onehot cb) (prefixes cb tri) (bases cb tri) (k0_pay33 (k0_pay20 lanesT)) (Scalar.ofBits .f32 0x00000000#32)
    (k0_pay34 (total cb tri) k0_pay21)
/-- The permutation, position by token. -/
def permP : FVec F S1024x1024 .bf16 :=
  k0_pay39 (onehot cb) (prefixes cb tri) (bases cb tri) (k0_pay33 (k0_pay20 lanesT)) (Scalar.ofBits .f32 0x00000000#32)
    (k0_pay34 (total cb tri) k0_pay21)
/-- The tile's rows in position order. -/
def gathered : FVec F S1024x1024 .bf16 :=
  k0_pay137 (k0_pay40 (onehot cb) (prefixes cb tri) (bases cb tri) (k0_pay33 (k0_pay20 lanesT)) (Scalar.ofBits .f32 0x00000000#32)
    (k0_pay34 (total cb tri) k0_pay21) h)
/-- The tile's combine weights in position order. -/
def gatheredW : FVec F S1024x128 .f32 := k0_pay138 cb (permP cb tri)
/-- The groups' first positions (words 0 to 3) and sizes (words 4 to 7). -/
def segWords : Vec F S8 .i32 := fun j =>
  (![Scalar.fptosi 32 (k0_pay23 (F := F)), Scalar.fptosi 32 (k0_pay26 (total cb tri) k0_pay21), Scalar.fptosi 32 (k0_pay30 (total cb tri) k0_pay21),
     Scalar.fptosi 32 (k0_pay35 (k0_pay32 (total cb tri) k0_pay21)), Scalar.fptosi 32 (k0_pay24 (total cb tri)), Scalar.fptosi 32 (k0_pay27 (total cb tri)),
     Scalar.fptosi 32 (k0_pay31 (total cb tri)), Scalar.fptosi 32 (k0_pay36 (total cb tri))] : Fin 8 → BitVec 32) (j 0)

/-- Loading a whole memref gives what it reads as. -/
theorem readAt_whole2 {e : EltTy} {sp : Space} {d : Fin 2 → ℕ} (v : View sig .tc sp ⟨2, d⟩ e) (f : v.ty.Contents (Elt F))
    (inb : ∀ a, (![0, 0] : Fin 2 → ℕ) a + d a ≤ d a) :
    View.readAt (Elt F) v (Rect.unit (s := ⟨2, d⟩) ![0, 0] d inb).toLoadRect f = v.read (Elt F) f :=
  (rfl : _ = View.ld (v.read (Elt F) f) (Rect.unit (s := ⟨2, d⟩) ![0, 0] d inb)).trans
    (View.ld_unit_zero (S := ⟨2, d⟩) (by funext a; fin_cases a <;> rfl) inb _)

/-- Storing a whole memref leaves it reading as what was stored. -/
theorem read_store_whole2 {e : EltTy} {sp : Space} {d : Fin 2 → ℕ} (v : View sig .tc sp ⟨2, d⟩ e) (f : v.ty.Contents (Elt F))
    (inb : ∀ a, (![0, 0] : Fin 2 → ℕ) a + d a ≤ d a) (w : (⟨2, d⟩ : Shape).Idx → Elt F e) :
    v.read (Elt F) (v.writes (Elt F) f [⟨Rect.unit (s := ⟨2, d⟩) ![0, 0] d inb, w⟩]) = w := by
  funext y
  exact View.read_writes_cons_unit_of_mem v f inb w [] y y rfl (fun a => by fin_cases a <;> simp)

/-- Eight one-word stores, one at each word of an eight-word buffer, in the order the tables store them. -/
theorem read_cells {sp : Space} (v : View sig .tc sp S8 .i32) (f : v.ty.Contents (Elt F)) (w0 w1 w2 w3 w4 w5 w6 w7 : BitVec 32) (j : S8.Idx) :
    v.read (Elt F) (v.writes (Elt F) f
      [⟨Rect.unit ![7] S1.size inb_S8_S1_7, fun _ => w7⟩, ⟨Rect.unit ![3] S1.size inb_S8_S1_3, fun _ => w3⟩,
       ⟨Rect.unit ![6] S1.size inb_S8_S1_6, fun _ => w6⟩, ⟨Rect.unit ![2] S1.size inb_S8_S1_2, fun _ => w2⟩,
       ⟨Rect.unit ![5] S1.size inb_S8_S1_5, fun _ => w5⟩, ⟨Rect.unit ![1] S1.size inb_S8_S1_1, fun _ => w1⟩,
       ⟨Rect.unit ![4] S1.size inb_S8_S1_4, fun _ => w4⟩, ⟨Rect.unit ![0] S1.size inb_S8_S1_0, fun _ => w0⟩]) j
      = (![w0, w1, w2, w3, w4, w5, w6, w7] : Fin 8 → BitVec 32) (j 0) := by
  have key : ∀ (n : Fin 8) (x : BitVec 32),
      (if n.val = 7 then w7 else if n.val = 3 then w3 else if n.val = 6 then w6 else if n.val = 2 then w2 else
        if n.val = 5 then w5 else if n.val = 1 then w1 else if n.val = 4 then w4 else if n.val = 0 then w0 else x)
      = (![w0, w1, w2, w3, w4, w5, w6, w7] : Fin 8 → BitVec 32) n := by
    intro n x; fin_cases n <;> rfl
  refine Eq.trans ?_ (key (j 0) (v.read (Elt F) f j))
  refine (View.read_writes_cons_cell (d := ![8]) v _ _ _ _ j).trans (if_congr Iff.rfl rfl ?_)
  refine (View.read_writes_cons_cell (d := ![8]) v _ _ _ _ j).trans (if_congr Iff.rfl rfl ?_)
  refine (View.read_writes_cons_cell (d := ![8]) v _ _ _ _ j).trans (if_congr Iff.rfl rfl ?_)
  refine (View.read_writes_cons_cell (d := ![8]) v _ _ _ _ j).trans (if_congr Iff.rfl rfl ?_)
  refine (View.read_writes_cons_cell (d := ![8]) v _ _ _ _ j).trans (if_congr Iff.rfl rfl ?_)
  refine (View.read_writes_cons_cell (d := ![8]) v _ _ _ _ j).trans (if_congr Iff.rfl rfl ?_)
  refine (View.read_writes_cons_cell (d := ![8]) v _ _ _ _ j).trans (if_congr Iff.rfl rfl ?_)
  exact (View.read_writes_cons_cell (d := ![8]) v _ _ _ _ j).trans (if_congr Iff.rfl rfl rfl)

section
variable {α : Type} (c : Dev nD) (i : grid0.Coords)
    (arg2 : Memref sig .tc .vmem S1024x1024 .bf16) (harg2 : arg2.IsWhole) (arg3 : Memref sig .tc .vmem S1024x128 .f32) (harg3 : arg3.IsWhole)
    (arg4 : Memref sig .tc .vmem S1024x1024 .f32) (harg4 : arg4.IsWhole) (arg5 : Memref sig .tc .vmem S128x128 .bf16) (harg5 : arg5.IsWhole)
    (arg6 : Memref sig .tc .vmem S4x1024x256 .bf16) (harg6 : arg6.IsWhole) (arg7 : Memref sig .tc .vmem S4x1024x256 .bf16) (harg7 : arg7.IsWhole)
    (arg8 : Memref sig .tc .vmem S4x256x1024 .bf16) (harg8 : arg8.IsWhole) (arg9 : Memref sig .tc .vmem S1x1024 .f32) (harg9 : arg9.IsWhole)
    (arg10 : Memref sig .tc .vmem S1024x1024 .f32) (harg10 : arg10.IsWhole) (arg11 : Memref sig .tc .vmem S1024x1024 .bf16) (harg11 : arg11.IsWhole)
    (arg12 : Memref sig .tc .vmem S1024x1024 .bf16) (harg12 : arg12.IsWhole) (arg13 : Memref sig .tc .vmem S1024x128 .f32) (harg13 : arg13.IsWhole)
    (arg14 : Memref sig .tc .vmem S1024x1024 .f32) (harg14 : arg14.IsWhole) (arg15 : Memref sig .tc .smem S8 .i32) (harg15 : arg15.IsWhole)
    (k : Unit → Prog (TpuEff nD τ sig (Elt F) Λ₀ .tc) α)

/-- At a tile's first group the scratch, whatever it held, is left holding the tables, and the accumulator zero. -/
theorem wp_tables (hfirst : firstCond i = 1#1) (Q : α → sProp 𝕄) :
    iprop(owns (c : Thread nD τ) arg2 fullShare h ∗ owns (c : Thread nD τ) arg3 fullShare cb ∗ owns (c : Thread nD τ) arg5 fullShare tri
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (∃ d, owns (c : Thread nD τ) arg15 fullShare d)
        ∗ (iprop(owns (c : Thread nD τ) arg2 fullShare h ∗ owns (c : Thread nD τ) arg3 fullShare cb ∗ owns (c : Thread nD τ) arg5 fullShare tri
            ∗ owns (c : Thread nD τ) arg11 fullShare (permT cb tri) ∗ owns (c : Thread nD τ) arg12 fullShare (gathered cb tri h)
            ∗ owns (c : Thread nD τ) arg13 fullShare (gatheredW cb tri) ∗ owns (c : Thread nD τ) arg14 fullShare (k0_pay139 (F := F))
            ∗ owns (c : Thread nD τ) arg15 fullShare (segWords cb tri))
            -∗ wp frame (wpE (defs₀ (F := F)) Variants.none c none) Set.univ (k ()) Q))
      ⊢ wp frame (wpE (defs₀ (F := F)) Variants.none c none) Set.univ
          (tables i arg2 harg2 arg3 harg3 arg4 harg4 arg5 harg5 arg6 harg6 arg7 harg7 arg8 harg8 arg9 harg9 arg10 harg10 arg11 harg11 arg12 harg12 arg13 harg13 arg14 harg14 arg15 harg15 k) Q := by
  unfold tables
  rw [if_pos hfirst]
  simp only [k0_part1_eq_skeleton, k0_part2_eq_skeleton, k0_part3_eq_skeleton, k0_part4_eq_skeleton]
  unfold k0_part1_skel k0_part2_skel k0_part3_skel k0_part4_skel
  unfold owns
  iintro ⟨⟨%f2, %h2, H2⟩, ⟨%f3, %h3, H3⟩, ⟨%f5, %h5, H5⟩, ⟨%d11, %f11, -, H11⟩, ⟨%d12, %f12, -, H12⟩, ⟨%d13, %f13, -, H13⟩,
    ⟨%d14, %f14, -, H14⟩, ⟨%d15, %f15, -, H15⟩, Hk⟩
  sl_exec
  have e2 : View.readAt (Elt F) arg2.view (Rect.unit (s := S1024x1024) ![0, 0] S1024x1024.size inb_S1024x1024_S1024x1024_0_0).toLoadRect f2 = h :=
    (readAt_whole2 arg2.view f2 _).trans h2
  have e3 : View.readAt (Elt F) arg3.view (Rect.unit (s := S1024x128) ![0, 0] S1024x128.size inb_S1024x128_S1024x128_0_0).toLoadRect f3 = cb :=
    (readAt_whole2 arg3.view f3 _).trans h3
  have e5 : View.readAt (Elt F) arg5.view (Rect.unit (s := S128x128) ![0, 0] S128x128.size inb_S128x128_S128x128_0_0).toLoadRect f5 = tri :=
    (readAt_whole2 arg5.view f5 _).trans h5
  subst e2 e3 e5
  iapply Hk
  isplitl [H2]; · iexists f2; isplitr; · ipureintro; exact h2
                  iexact H2
  isplitl [H3]; · iexists f3; isplitr; · ipureintro; exact h3
                  iexact H3
  isplitl [H5]; · iexists f5; isplitr; · ipureintro; exact h5
                  iexact H5
  isplitl [H11]
  · iexists _; isplitr; swap; · iexact H11
    ipureintro
    exact (read_store_whole2 arg11.view _ _ _).trans rfl
  isplitl [H12]
  · iexists _; isplitr; swap; · iexact H12
    ipureintro; exact (read_store_whole2 arg12.view _ _ _).trans rfl
  isplitl [H13]
  · iexists _; isplitr; swap; · iexact H13
    ipureintro; exact (read_store_whole2 arg13.view _ _ _).trans rfl
  isplitl [H14]
  · iexists _; isplitr; swap; · iexact H14
    ipureintro; exact (read_store_whole2 arg14.view _ _ _).trans rfl
  iexists _; isplitr; swap; · iexact H15
  ipureintro
  funext j
  refine (read_cells arg15.view _ _ _ _ _ _ _ _ _ j).trans ?_
  rfl

end
end Cert.KernelIdeal.Moe

end
-- ==== Proof.Group.lean ====
/-
  A group's run over the eight blocks of a tile, and the tile's end.
-/
module

public import proofs.«01_k».proof.Proof.Tables

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A group's eight blocks, as a function of the accumulator -/

/-- The word of `seg` at which group `i 1`'s first position is read, and the one at which its size is read. -/
def startWord (i : grid0.Coords) (seg : Vec F S8 .i32) : BitVec 32 :=
  View.ld seg (Rect.unit (s := S8) (k0_off1 i) S1.size (k0_off1_inb i)) (Shape.Idx.first (numel1_S1.symm ▸ Nat.one_pos))
def sizeWord (i : grid0.Coords) (seg : Vec F S8 .i32) : BitVec 32 :=
  View.ld seg (Rect.unit (s := S8) (k0_off2 i) S1.size (k0_off2_inb i)) (Shape.Idx.first (numel1_S1.symm ▸ Nat.one_pos))

section Values
variable (g : BitVec 32) (ln : IVec S128x128 32) (wg wu : Vec F S4x1024x256 .bf16) (wd : Vec F S4x256x1024 .bf16)
    (hs : Vec F S1024x1024 .bf16) (cs : Vec F S1024x128 .f32) (s e : BitVec 32) (y : Vec F S1024x1024 .f32)
/-- The accumulator after the group's first four blocks, the group's positions being `[s, e)`. -/
def blocksLo : Vec F S1024x1024 .f32 :=
  blockAfter g ln wg wu wd hs cs (runs s e 384#32 512#32) 384 (by decide)
    (blockAfter g ln wg wu wd hs cs (runs s e 256#32 384#32) 256 (by decide)
      (blockAfter g ln wg wu wd hs cs (runs s e 128#32 256#32) 128 (by decide)
        (blockAfter g ln wg wu wd hs cs (runs s e 0#32 128#32) 0 (by decide) y)))
/-- The accumulator after the group's last four blocks. -/
def blocksHi : Vec F S1024x1024 .f32 :=
  blockAfter g ln wg wu wd hs cs (runs s e 896#32 1024#32) 896 (by decide)
    (blockAfter g ln wg wu wd hs cs (runs s e 768#32 896#32) 768 (by decide)
      (blockAfter g ln wg wu wd hs cs (runs s e 640#32 768#32) 640 (by decide)
        (blockAfter g ln wg wu wd hs cs (runs s e 512#32 640#32) 512 (by decide) y)))
end Values

/-- The accumulator after group `i 1`, whose positions are read from `seg`. -/
def groupAfter (i : grid0.Coords) (wg wu : Vec F S4x1024x256 .bf16) (wd : Vec F S4x256x1024 .bf16)
    (hs : Vec F S1024x1024 .bf16) (cs : Vec F S1024x128 .f32) (seg : Vec F S8 .i32) (y : Vec F S1024x1024 .f32) : Vec F S1024x1024 .f32 :=
  blocksHi (BitVec.ofNat 32 (i 1).val) lanes wg wu wd hs cs (startWord i seg) (Scalar.addi (startWord i seg) (sizeWord i seg))
    (blocksLo (BitVec.ofNat 32 (i 1).val) lanes wg wu wd hs cs (startWord i seg) (Scalar.addi (startWord i seg) (sizeWord i seg)) y)

section
variable {α : Type} (c : Dev nD) (i : grid0.Coords)
    (arg4 : Memref sig .tc .vmem S1024x1024 .f32)
    (arg6 : Memref sig .tc .vmem S4x1024x256 .bf16) (arg7 : Memref sig .tc .vmem S4x1024x256 .bf16)
    (arg8 : Memref sig .tc .vmem S4x256x1024 .bf16) (arg9 : Memref sig .tc .vmem S1x1024 .f32)
    (arg10 : Memref sig .tc .vmem S1024x1024 .f32) (arg11 : Memref sig .tc .vmem S1024x1024 .bf16)
    (arg12 : Memref sig .tc .vmem S1024x1024 .bf16) (arg13 : Memref sig .tc .vmem S1024x128 .f32)
    (arg14 : Memref sig .tc .vmem S1024x1024 .f32) (arg15 : Memref sig .tc .smem S8 .i32)
    (wg wu : Vec F S4x1024x256 .bf16) (wd : Vec F S4x256x1024 .bf16)
    (hs : Vec F S1024x1024 .bf16) (cs : Vec F S1024x128 .f32) (seg : Vec F S8 .i32) (y : Vec F S1024x1024 .f32)

/-- The first four blocks, then whatever follows. -/
theorem wp_lo (g : BitVec 32) (ln : IVec S128x128 32) (s e : BitVec 32) (k : Unit → Prog (TpuEff nD τ sig (Elt F) Λ₀ .tc) α) (Q : α → sProp 𝕄) :
    iprop(owns (c : Thread nD τ) arg6 fullShare wg ∗ owns (c : Thread nD τ) arg7 fullShare wu ∗ owns (c : Thread nD τ) arg8 fullShare wd ∗ owns (c : Thread nD τ) arg12 fullShare hs ∗ owns (c : Thread nD τ) arg13 fullShare cs ∗ owns (c : Thread nD τ) arg14 fullShare y
        ∗ (iprop(owns (c : Thread nD τ) arg6 fullShare wg ∗ owns (c : Thread nD τ) arg7 fullShare wu ∗ owns (c : Thread nD τ) arg8 fullShare wd ∗ owns (c : Thread nD τ) arg12 fullShare hs ∗ owns (c : Thread nD τ) arg13 fullShare cs ∗ owns (c : Thread nD τ) arg14 fullShare (blocksLo g ln wg wu wd hs cs s e y))
            -∗ wp frame (wpE (defs₀ (F := F)) Variants.none c none) Set.univ (k ()) Q))
      ⊢ wp frame (wpE (defs₀ (F := F)) Variants.none c none) Set.univ
          (block g ln arg6 arg7 arg8 arg12 arg13 arg14 (runs s e 0#32 128#32) 0 (by decide) fun _ =>
          (block g ln arg6 arg7 arg8 arg12 arg13 arg14 (runs s e 128#32 256#32) 128 (by decide) fun _ =>
          (block g ln arg6 arg7 arg8 arg12 arg13 arg14 (runs s e 256#32 384#32) 256 (by decide) fun _ =>
          (block g ln arg6 arg7 arg8 arg12 arg13 arg14 (runs s e 384#32 512#32) 384 (by decide) fun _ =>
          k ())))) Q := by
  unfold blocksLo
  iintro ⟨H6, H7, H8, H12, H13, H14, Hk⟩
  iapply (wp_block c g ln arg6 arg7 arg8 arg12 arg13 arg14 (runs s e 0#32 128#32) 0 _ _ wg wu wd hs cs y Q)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  iapply (wp_block c g ln arg6 arg7 arg8 arg12 arg13 arg14 (runs s e 128#32 256#32) 128 _ _ wg wu wd hs cs _ Q)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  iapply (wp_block c g ln arg6 arg7 arg8 arg12 arg13 arg14 (runs s e 256#32 384#32) 256 _ _ wg wu wd hs cs _ Q)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  iapply (wp_block c g ln arg6 arg7 arg8 arg12 arg13 arg14 (runs s e 384#32 512#32) 384 _ _ wg wu wd hs cs _ Q)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  iapply Hk
  isplitl [H6]; · iexact H6
  isplitl [H7]; · iexact H7
  isplitl [H8]; · iexact H8
  isplitl [H12]; · iexact H12
  isplitl [H13]; · iexact H13
  iexact H14

/-- The last four blocks, then whatever follows. -/
theorem wp_hi (g : BitVec 32) (ln : IVec S128x128 32) (s e : BitVec 32) (k : Unit → Prog (TpuEff nD τ sig (Elt F) Λ₀ .tc) α) (Q : α → sProp 𝕄) :
    iprop(owns (c : Thread nD τ) arg6 fullShare wg ∗ owns (c : Thread nD τ) arg7 fullShare wu ∗ owns (c : Thread nD τ) arg8 fullShare wd ∗ owns (c : Thread nD τ) arg12 fullShare hs ∗ owns (c : Thread nD τ) arg13 fullShare cs ∗ owns (c : Thread nD τ) arg14 fullShare y
        ∗ (iprop(owns (c : Thread nD τ) arg6 fullShare wg ∗ owns (c : Thread nD τ) arg7 fullShare wu ∗ owns (c : Thread nD τ) arg8 fullShare wd ∗ owns (c : Thread nD τ) arg12 fullShare hs ∗ owns (c : Thread nD τ) arg13 fullShare cs ∗ owns (c : Thread nD τ) arg14 fullShare (blocksHi g ln wg wu wd hs cs s e y))
            -∗ wp frame (wpE (defs₀ (F := F)) Variants.none c none) Set.univ (k ()) Q))
      ⊢ wp frame (wpE (defs₀ (F := F)) Variants.none c none) Set.univ
          (block g ln arg6 arg7 arg8 arg12 arg13 arg14 (runs s e 512#32 640#32) 512 (by decide) fun _ =>
          (block g ln arg6 arg7 arg8 arg12 arg13 arg14 (runs s e 640#32 768#32) 640 (by decide) fun _ =>
          (block g ln arg6 arg7 arg8 arg12 arg13 arg14 (runs s e 768#32 896#32) 768 (by decide) fun _ =>
          (block g ln arg6 arg7 arg8 arg12 arg13 arg14 (runs s e 896#32 1024#32) 896 (by decide) fun _ =>
          k ())))) Q := by
  unfold blocksHi
  iintro ⟨H6, H7, H8, H12, H13, H14, Hk⟩
  iapply (wp_block c g ln arg6 arg7 arg8 arg12 arg13 arg14 (runs s e 512#32 640#32) 512 _ _ wg wu wd hs cs y Q)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  iapply (wp_block c g ln arg6 arg7 arg8 arg12 arg13 arg14 (runs s e 640#32 768#32) 640 _ _ wg wu wd hs cs _ Q)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  iapply (wp_block c g ln arg6 arg7 arg8 arg12 arg13 arg14 (runs s e 768#32 896#32) 768 _ _ wg wu wd hs cs _ Q)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  iapply (wp_block c g ln arg6 arg7 arg8 arg12 arg13 arg14 (runs s e 896#32 1024#32) 896 _ _ wg wu wd hs cs _ Q)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  iapply Hk
  isplitl [H6]; · iexact H6
  isplitl [H7]; · iexact H7
  isplitl [H8]; · iexact H8
  isplitl [H12]; · iexact H12
  isplitl [H13]; · iexact H13
  iexact H14

/-- Reading the group's two words leaves the words as they were. -/
theorem wp_words (k : BitVec 32 → BitVec 32 → Prog (TpuEff nD τ sig (Elt F) Λ₀ .tc) α) (Q : α → sProp 𝕄) :
    iprop(owns (c : Thread nD τ) arg15 fullShare seg ∗ (iprop(owns (c : Thread nD τ) arg15 fullShare seg)
            -∗ wp frame (wpE (defs₀ (F := F)) Variants.none c none) Set.univ (k (startWord i seg) (sizeWord i seg)) Q))
      ⊢ wp frame (wpE (defs₀ (F := F)) Variants.none c none) Set.univ (words i arg15 k) Q := by
  unfold words
  unfold owns
  iintro ⟨⟨%f15, %h15, H15⟩, Hk⟩
  subst h15
  sl_exec
  iapply Hk
  iexists f15; isplitr; · ipureintro; rfl
  iexact H15

/-- A group's blocks, all eight, then the tile's end: what is left to run is `finish`, with the accumulator at `groupAfter`. -/
theorem wp_group (Q : PUnit → sProp 𝕄) :
    iprop(owns (c : Thread nD τ) arg6 fullShare wg ∗ owns (c : Thread nD τ) arg7 fullShare wu ∗ owns (c : Thread nD τ) arg8 fullShare wd ∗ owns (c : Thread nD τ) arg12 fullShare hs ∗ owns (c : Thread nD τ) arg13 fullShare cs ∗ owns (c : Thread nD τ) arg14 fullShare y ∗ owns (c : Thread nD τ) arg15 fullShare seg
        ∗ (iprop(owns (c : Thread nD τ) arg6 fullShare wg ∗ owns (c : Thread nD τ) arg7 fullShare wu ∗ owns (c : Thread nD τ) arg8 fullShare wd ∗ owns (c : Thread nD τ) arg12 fullShare hs ∗ owns (c : Thread nD τ) arg13 fullShare cs ∗ owns (c : Thread nD τ) arg14 fullShare (groupAfter i wg wu wd hs cs seg y) ∗ owns (c : Thread nD τ) arg15 fullShare seg)
            -∗ wp frame (wpE (defs₀ (F := F)) Variants.none c none) Set.univ (finish i arg4 arg9 arg10 arg11 arg14) Q))
      ⊢ wp frame (wpE (defs₀ (F := F)) Variants.none c none) Set.univ
          (groupBlocks i arg6 arg7 arg8 arg12 arg13 arg14 arg15)
          (fun r => wp frame (wpE (defs₀ (F := F)) Variants.none c none) Set.univ
            (secondHalf i arg4 arg6 arg7 arg8 arg9 arg10 arg11 arg12 arg13 arg14 r) Q) := by
  unfold groupBlocks
  iintro ⟨H6, H7, H8, H12, H13, H14, H15, Hk⟩
  iapply (wp_words c i arg15 seg)
  isplitl [H15]; · iexact H15
  iintro H15
  iapply (wp_lo c arg6 arg7 arg8 arg12 arg13 arg14 wg wu wd hs cs y (BitVec.ofNat 32 (i 1).val) lanes
    (startWord i seg) (Scalar.addi (startWord i seg) (sizeWord i seg))
    (fun _ => pure ⟨BitVec.ofNat 32 (i 1).val, startWord i seg, Scalar.addi (startWord i seg) (sizeWord i seg), lanes,
      meets (startWord i seg) (Scalar.addi (startWord i seg) (sizeWord i seg)) 512#32 640#32, 0#32⟩) _)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  rw [wp_pure]
  imodintro
  unfold secondHalf
  iapply (wp_hi c arg6 arg7 arg8 arg12 arg13 arg14 wg wu wd hs cs _ (BitVec.ofNat 32 (i 1).val) lanes
    (startWord i seg) (Scalar.addi (startWord i seg) (sizeWord i seg))
    (fun _ => finish i arg4 arg9 arg10 arg11 arg14) Q)
  isplitl [H6]; · iexact H6
  isplitl [H7]; · iexact H7
  isplitl [H8]; · iexact H8
  isplitl [H12]; · iexact H12
  isplitl [H13]; · iexact H13
  isplitl [H14]; · iexact H14
  iintro ⟨H6, H7, H8, H12, H13, H14⟩
  iapply Hk
  isplitl [H6]; · iexact H6
  isplitl [H7]; · iexact H7
  isplitl [H8]; · iexact H8
  isplitl [H12]; · iexact H12
  isplitl [H13]; · iexact H13
  isplitl [H14]; · iexact H14
  iexact H15

/-- Off a tile's last group `finish` does nothing. -/
theorem wp_finish_skip (hlast : ¬ k0_cond10 i = 1#1) (Q : PUnit → sProp 𝕄) :
    Q ⟨⟩ ⊢ wp frame (wpE (defs₀ (F := F)) Variants.none c none) Set.univ (finish i arg4 arg9 arg10 arg11 arg14) Q := by
  unfold finish; rw [if_neg hlast]
  iintro H; sl_step; iexact H

/-- At a tile's last group the output block is the residual plus the accumulator in token order, normalised. -/
theorem wp_finish (hlast : k0_cond10 i = 1#1) (xn : Vec F S1024x1024 .f32) (gf : Vec F S1x1024 .f32) (pt : Vec F S1024x1024 .bf16) (Q : PUnit → sProp 𝕄) :
    iprop(owns (c : Thread nD τ) arg4 fullShare xn ∗ owns (c : Thread nD τ) arg9 fullShare gf ∗ (∃ d, owns (c : Thread nD τ) arg10 fullShare d) ∗ owns (c : Thread nD τ) arg11 fullShare pt ∗ owns (c : Thread nD τ) arg14 fullShare y
        ∗ (iprop(owns (c : Thread nD τ) arg4 fullShare xn ∗ owns (c : Thread nD τ) arg9 fullShare gf ∗ owns (c : Thread nD τ) arg10 fullShare (k0_pay5 xn pt y gf) ∗ owns (c : Thread nD τ) arg11 fullShare pt ∗ owns (c : Thread nD τ) arg14 fullShare y) -∗ Q ⟨⟩))
      ⊢ wp frame (wpE (defs₀ (F := F)) Variants.none c none) Set.univ (finish i arg4 arg9 arg10 arg11 arg14) Q := by
  unfold finish; rw [if_pos hlast]
  unfold owns
  iintro ⟨⟨%f4, %h4, H4⟩, ⟨%f9, %h9, H9⟩, ⟨%d10, %f10, -, H10⟩, ⟨%f11, %h11, H11⟩, ⟨%f14, %h14, H14⟩, Hk⟩
  sl_exec
  sl_step
  have e4 : View.readAt (Elt F) arg4.view (Rect.unit (s := S1024x1024) ![0, 0] S1024x1024.size inb_S1024x1024_S1024x1024_0_0).toLoadRect f4 = xn :=
    (readAt_whole2 arg4.view f4 _).trans h4
  have e9 : View.readAt (Elt F) arg9.view (Rect.unit (s := S1x1024) ![0, 0] S1x1024.size inb_S1x1024_S1x1024_0_0).toLoadRect f9 = gf :=
    (readAt_whole2 arg9.view f9 _).trans h9
  have e11 : View.readAt (Elt F) arg11.view (Rect.unit (s := S1024x1024) ![0, 0] S1024x1024.size inb_S1024x1024_S1024x1024_0_0).toLoadRect f11 = pt :=
    (readAt_whole2 arg11.view f11 _).trans h11
  have e14 : View.readAt (Elt F) arg14.view (Rect.unit (s := S1024x1024) ![0, 0] S1024x1024.size inb_S1024x1024_S1024x1024_0_0).toLoadRect f14 = y :=
    (readAt_whole2 arg14.view f14 _).trans h14
  subst e4 e9 e11 e14
  iapply Hk
  isplitl [H4]; · iexists f4; isplitr; · ipureintro; exact h4
                  iexact H4
  isplitl [H9]; · iexists f9; isplitr; · ipureintro; exact h9
                  iexact H9
  isplitl [H10]
  · iexists _; isplitr; swap; · iexact H10
    ipureintro
    exact read_store_whole2 arg10.view _ _ _
  isplitl [H11]; · iexists f11; isplitr; · ipureintro; exact h11
                   iexact H11
  iexists f14; isplitr; · ipureintro; exact h14
  iexact H14

end
end Cert.KernelIdeal.Moe

end
-- ==== Proof.Point.lean ====
/-
  One grid point's run, for any memrefs: what it needs and what it leaves.
-/
module

public import proofs.«01_k».proof.Proof.Group

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
    (arg2 : Memref sig .tc .vmem S1024x1024 .bf16) (harg2 : arg2.IsWhole) (arg3 : Memref sig .tc .vmem S1024x128 .f32) (harg3 : arg3.IsWhole)
    (arg4 : Memref sig .tc .vmem S1024x1024 .f32) (harg4 : arg4.IsWhole) (arg5 : Memref sig .tc .vmem S128x128 .bf16) (harg5 : arg5.IsWhole)
    (arg6 : Memref sig .tc .vmem S4x1024x256 .bf16) (harg6 : arg6.IsWhole) (arg7 : Memref sig .tc .vmem S4x1024x256 .bf16) (harg7 : arg7.IsWhole)
    (arg8 : Memref sig .tc .vmem S4x256x1024 .bf16) (harg8 : arg8.IsWhole) (arg9 : Memref sig .tc .vmem S1x1024 .f32) (harg9 : arg9.IsWhole)
    (arg10 : Memref sig .tc .vmem S1024x1024 .f32) (harg10 : arg10.IsWhole) (arg11 : Memref sig .tc .vmem S1024x1024 .bf16) (harg11 : arg11.IsWhole)
    (arg12 : Memref sig .tc .vmem S1024x1024 .bf16) (harg12 : arg12.IsWhole) (arg13 : Memref sig .tc .vmem S1024x128 .f32) (harg13 : arg13.IsWhole)
    (arg14 : Memref sig .tc .vmem S1024x1024 .f32) (harg14 : arg14.IsWhole) (arg15 : Memref sig .tc .smem S8 .i32) (harg15 : arg15.IsWhole)
    (h : Vec F S1024x1024 .bf16) (cb : Vec F S1024x128 .f32) (xn : Vec F S1024x1024 .f32) (tri : Vec F S128x128 .bf16)
    (wg wu : Vec F S4x1024x256 .bf16) (wd : Vec F S4x256x1024 .bf16) (gf : Vec F S1x1024 .f32) (o : Vec F S1024x1024 .f32)
    (pt hs : Vec F S1024x1024 .bf16) (cs : Vec F S1024x128 .f32) (y : Vec F S1024x1024 .f32) (seg : Vec F S8 .i32)

/-- A point's run from the tables on: the accumulator at `groupAfter`, and at a tile's last group the output block written. -/
theorem wp_main (Q : PUnit → sProp 𝕄) :
    iprop(owns (c : Thread nD τ) arg4 fullShare xn ∗ owns (c : Thread nD τ) arg6 fullShare wg ∗ owns (c : Thread nD τ) arg7 fullShare wu ∗ owns (c : Thread nD τ) arg8 fullShare wd ∗ owns (c : Thread nD τ) arg9 fullShare gf ∗ owns (c : Thread nD τ) arg10 fullShare o ∗ owns (c : Thread nD τ) arg11 fullShare pt ∗ owns (c : Thread nD τ) arg12 fullShare hs ∗ owns (c : Thread nD τ) arg13 fullShare cs ∗ owns (c : Thread nD τ) arg14 fullShare y ∗ owns (c : Thread nD τ) arg15 fullShare seg
        ∗ (iprop(owns (c : Thread nD τ) arg4 fullShare xn ∗ owns (c : Thread nD τ) arg6 fullShare wg ∗ owns (c : Thread nD τ) arg7 fullShare wu ∗ owns (c : Thread nD τ) arg8 fullShare wd ∗ owns (c : Thread nD τ) arg9 fullShare gf ∗ owns (c : Thread nD τ) arg10 fullShare (if k0_cond10 i = 1#1 then k0_pay5 xn pt (groupAfter i wg wu wd hs cs seg y) gf else o) ∗ owns (c : Thread nD τ) arg11 fullShare pt ∗ owns (c : Thread nD τ) arg12 fullShare hs ∗ owns (c : Thread nD τ) arg13 fullShare cs ∗ owns (c : Thread nD τ) arg14 fullShare (groupAfter i wg wu wd hs cs seg y) ∗ owns (c : Thread nD τ) arg15 fullShare seg) -∗ Q ⟨⟩))
      ⊢ wp frame (wpE (defs₀ (F := F)) Variants.none c none) Set.univ (groupBlocks i arg6 arg7 arg8 arg12 arg13 arg14 arg15)
          (fun r => wp frame (wpE (defs₀ (F := F)) Variants.none c none) Set.univ (secondHalf i arg4 arg6 arg7 arg8 arg9 arg10 arg11 arg12 arg13 arg14 r) Q) := by
  iintro ⟨H4, H6, H7, H8, H9, H10, H11, H12, H13, H14, H15, Hk⟩
  iapply (wp_group c i arg4 arg6 arg7 arg8 arg9 arg10 arg11 arg12 arg13 arg14 arg15 wg wu wd hs cs seg y Q)
  isplitl [H6]; · iexact H6
  isplitl [H7]; · iexact H7
  isplitl [H8]; · iexact H8
  isplitl [H12]; · iexact H12
  isplitl [H13]; · iexact H13
  isplitl [H14]; · iexact H14
  isplitl [H15]; · iexact H15
  iintro ⟨H6, H7, H8, H12, H13, H14, H15⟩
  by_cases hlast : k0_cond10 i = 1#1
  · rw [if_pos hlast]
    iapply (wp_finish c i arg4 arg9 arg10 arg11 arg14 (groupAfter i wg wu wd hs cs seg y) hlast xn gf pt Q)
    isplitl [H4]; · iexact H4
    isplitl [H9]; · iexact H9
    isplitl [H10]; · iexists o; iexact H10
    isplitl [H11]; · iexact H11
    isplitl [H14]; · iexact H14
    iintro ⟨H4, H9, H10, H11, H14⟩
    iapply Hk
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

  · rw [if_neg hlast]
    iapply (wp_finish_skip c i arg4 arg9 arg10 arg11 arg14 hlast Q)
    iapply Hk
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- A tile's first point: the scratch holds anything before. -/
theorem wp_body_first (hfirst : firstCond i = 1#1) (Q : PUnit → sProp 𝕄) :
    iprop(owns (c : Thread nD τ) arg2 fullShare h ∗ owns (c : Thread nD τ) arg3 fullShare cb ∗ owns (c : Thread nD τ) arg4 fullShare xn ∗ owns (c : Thread nD τ) arg5 fullShare tri ∗ owns (c : Thread nD τ) arg6 fullShare wg ∗ owns (c : Thread nD τ) arg7 fullShare wu ∗ owns (c : Thread nD τ) arg8 fullShare wd ∗ owns (c : Thread nD τ) arg9 fullShare gf ∗ owns (c : Thread nD τ) arg10 fullShare o
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare h ∗ owns (c : Thread nD τ) arg3 fullShare cb ∗ owns (c : Thread nD τ) arg4 fullShare xn ∗ owns (c : Thread nD τ) arg5 fullShare tri ∗ owns (c : Thread nD τ) arg6 fullShare wg ∗ owns (c : Thread nD τ) arg7 fullShare wu ∗ owns (c : Thread nD τ) arg8 fullShare wd ∗ owns (c : Thread nD τ) arg9 fullShare gf ∗ owns (c : Thread nD τ) arg10 fullShare (if k0_cond10 i = 1#1 then k0_pay5 xn (permT cb tri) (groupAfter i wg wu wd (gathered cb tri h) (gatheredW cb tri) (segWords cb tri) k0_pay139) gf else o) ∗ owns (c : Thread nD τ) arg11 fullShare (permT cb tri) ∗ owns (c : Thread nD τ) arg12 fullShare (gathered cb tri h) ∗ owns (c : Thread nD τ) arg13 fullShare (gatheredW cb tri) ∗ owns (c : Thread nD τ) arg14 fullShare (groupAfter i wg wu wd (gathered cb tri h) (gatheredW cb tri) (segWords cb tri) k0_pay139) ∗ owns (c : Thread nD τ) arg15 fullShare (segWords cb tri)) -∗ Q ⟨⟩))
      ⊢ wp frame (wpE (defs₀ (F := F)) Variants.none c none) Set.univ (cc0_moe i arg2 harg2 arg3 harg3 arg4 harg4 arg5 harg5 arg6 harg6 arg7 harg7 arg8 harg8 arg9 harg9 arg10 harg10 arg11 harg11 arg12 harg12 arg13 harg13 arg14 harg14 arg15 harg15) Q := by
  rw [body_eq, wp_bind]
  unfold firstHalf
  iintro ⟨H2, H3, H4, H5, H6, H7, H8, H9, H10, H11, H12, H13, H14, H15, Hk⟩
  iapply (wp_tables cb tri h c i arg2 harg2 arg3 harg3 arg4 harg4 arg5 harg5 arg6 harg6 arg7 harg7 arg8 harg8 arg9 harg9 arg10 harg10 arg11 harg11 arg12 harg12 arg13 harg13 arg14 harg14 arg15 harg15 _ hfirst _)
  isplitl [H2]; · iexact H2
  isplitl [H3]; · iexact H3
  isplitl [H5]; · iexact H5
  isplitl [H11]; · iexact H11
  isplitl [H12]; · iexact H12
  isplitl [H13]; · iexact H13
  isplitl [H14]; · iexact H14
  isplitl [H15]; · iexact H15
  iintro ⟨H2, H3, H5, H11, H12, H13, H14, H15⟩
  iapply (wp_main c i arg4 arg6 arg7 arg8 arg9 arg10 arg11 arg12 arg13 arg14 arg15 xn wg wu wd gf o (permT cb tri) (gathered cb tri h)
    (gatheredW cb tri) k0_pay139 (segWords cb tri) Q)
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H4, H6, H7, H8, H9, H10, H11, H12, H13, H14, H15⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- A tile's later point: the scratch holds the tables and the accumulator so far. -/
theorem wp_body_next (hfirst : ¬ firstCond i = 1#1) (Q : PUnit → sProp 𝕄) :
    iprop(owns (c : Thread nD τ) arg2 fullShare h ∗ owns (c : Thread nD τ) arg3 fullShare cb ∗ owns (c : Thread nD τ) arg4 fullShare xn ∗ owns (c : Thread nD τ) arg5 fullShare tri ∗ owns (c : Thread nD τ) arg6 fullShare wg ∗ owns (c : Thread nD τ) arg7 fullShare wu ∗ owns (c : Thread nD τ) arg8 fullShare wd ∗ owns (c : Thread nD τ) arg9 fullShare gf ∗ owns (c : Thread nD τ) arg10 fullShare o ∗ owns (c : Thread nD τ) arg11 fullShare pt ∗ owns (c : Thread nD τ) arg12 fullShare hs ∗ owns (c : Thread nD τ) arg13 fullShare cs ∗ owns (c : Thread nD τ) arg14 fullShare y ∗ owns (c : Thread nD τ) arg15 fullShare seg
        ∗ (iprop(owns (c : Thread nD τ) arg2 fullShare h ∗ owns (c : Thread nD τ) arg3 fullShare cb ∗ owns (c : Thread nD τ) arg4 fullShare xn ∗ owns (c : Thread nD τ) arg5 fullShare tri ∗ owns (c : Thread nD τ) arg6 fullShare wg ∗ owns (c : Thread nD τ) arg7 fullShare wu ∗ owns (c : Thread nD τ) arg8 fullShare wd ∗ owns (c : Thread nD τ) arg9 fullShare gf ∗ owns (c : Thread nD τ) arg10 fullShare (if k0_cond10 i = 1#1 then k0_pay5 xn pt (groupAfter i wg wu wd hs cs seg y) gf else o) ∗ owns (c : Thread nD τ) arg11 fullShare pt ∗ owns (c : Thread nD τ) arg12 fullShare hs ∗ owns (c : Thread nD τ) arg13 fullShare cs ∗ owns (c : Thread nD τ) arg14 fullShare (groupAfter i wg wu wd hs cs seg y) ∗ owns (c : Thread nD τ) arg15 fullShare seg) -∗ Q ⟨⟩))
      ⊢ wp frame (wpE (defs₀ (F := F)) Variants.none c none) Set.univ (cc0_moe i arg2 harg2 arg3 harg3 arg4 harg4 arg5 harg5 arg6 harg6 arg7 harg7 arg8 harg8 arg9 harg9 arg10 harg10 arg11 harg11 arg12 harg12 arg13 harg13 arg14 harg14 arg15 harg15) Q := by
  rw [body_eq, wp_bind]
  unfold firstHalf tables
  rw [if_neg hfirst]
  iintro ⟨H2, H3, H4, H5, H6, H7, H8, H9, H10, H11, H12, H13, H14, H15, Hk⟩
  iapply (wp_main c i arg4 arg6 arg7 arg8 arg9 arg10 arg11 arg12 arg13 arg14 arg15 xn wg wu wd gf o pt hs cs y seg Q)
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H4, H6, H7, H8, H9, H10, H11, H12, H13, H14, H15⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end
end Cert.KernelIdeal.Moe

end
-- ==== Proof.Body.lean ====
/-
  The kernel's run on the whole grid: what the scratch holds between the points, the body at every point, and the launch.
-/
module

public import proofs.«01_k».proof.Proof.Point

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds between the points -/

/-- The first point of the tile point `n` is in. -/
def tileFirst (n : ℕ) : Fin cfg0.N := ⟨4 * (n / 4) % 64, lt_of_lt_of_eq (Nat.mod_lt _ (by decide)) N_0.symm⟩

/-- The tile's rows, its combine weights, and the triangle, at the tile of point `n`. -/
def hOf (c : Dev nD) (n : ℕ) : Vec F S1024x1024 .bf16 := iblk m c 0 (tileFirst n)
def cbOf (c : Dev nD) (n : ℕ) : Vec F S1024x128 .f32 := iblk m c 1 (tileFirst n)
def triOf (c : Dev nD) (n : ℕ) : Vec F S128x128 .bf16 := iblk m c 3 (tileFirst n)
/-- The tables of point `n`'s tile. -/
def ptOf (c : Dev nD) (n : ℕ) : Vec F S1024x1024 .bf16 := permT (cbOf m c n) (triOf m c n)
def hsOf (c : Dev nD) (n : ℕ) : Vec F S1024x1024 .bf16 := gathered (cbOf m c n) (triOf m c n) (hOf m c n)
def csOf (c : Dev nD) (n : ℕ) : Vec F S1024x128 .f32 := gatheredW (cbOf m c n) (triOf m c n)
def segOf (c : Dev nD) (n : ℕ) : Vec F S8 .i32 := segWords (cbOf m c n) (triOf m c n)

/-- What point `t`'s group makes of the accumulator. -/
def accStep (c : Dev nD) (t : Fin cfg0.N) (y : Vec F S1024x1024 .f32) : Vec F S1024x1024 .f32 :=
  groupAfter (grid0.coords t) (iblk m c 4 t) (iblk m c 5 t) (iblk m c 6 t) (hsOf m c t.val) (csOf m c t.val) (segOf m c t.val) y

/-- The accumulator after the first `k` points (at a tile's start it is cleared). -/
def acc (c : Dev nD) : ℕ → Vec F S1024x1024 .f32
  | 0 => k0_pay139
  | k + 1 => if hk : k < cfg0.N then accStep m c ⟨k, hk⟩ (if k % 4 = 0 then k0_pay139 else acc c k) else k0_pay139

theorem acc_succ (c : Dev nD) (t : Fin cfg0.N) :
    acc m c (t.val + 1) = accStep m c t (if t.val % 4 = 0 then k0_pay139 else acc m c t.val) := by
  rw [acc, dif_pos t.isLt]

/-- What the output block is at a tile's last point. -/
def outOf (c : Dev nD) (t : Fin cfg0.N) : Vec F S1024x1024 .f32 :=
  k0_pay5 (iblk m c 2 t) (ptOf m c t.val) (acc m c (t.val + 1)) (iblk m c 7 t)

/-- Between the points: inside a tile the scratch holds the tile's tables and the accumulator; between tiles anything. -/
def Phi (c : Dev nD) (n : ℕ) : sProp 𝕄 :=
  if n % 4 = 0 then Pipeline.ΦA spec0 c
  else iprop((owns (c : Thread nD τ) (Memref.whole cc0_scratch0) fullShare (ptOf m c n) ∗ owns (c : Thread nD τ) (Memref.whole cc0_scratch1) fullShare (hsOf m c n) ∗ owns (c : Thread nD τ) (Memref.whole cc0_scratch2) fullShare (csOf m c n) ∗ owns (c : Thread nD τ) (Memref.whole cc0_scratch3) fullShare (acc m c n) ∗ owns (c : Thread nD τ) (Memref.whole cc0_scratch4) fullShare (segOf m c n))
    ∗ ∃ r, prngReg c r)

/-- The scratch at anything, buffer by buffer. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ ∃ r, prngReg c r) := by
  unfold Pipeline.ΦA
  rw [scopedRest0_eq]; simp only [owns_whole]; try rfl

/-! ## The proof data -/

def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t
    | 4 => iblk m c 4 t | 5 => iblk m c 5 t | 6 => iblk m c 6 t | 7 => iblk m c 7 t
    | 8 => outOf m c t
    | ⟨_ + 9, h⟩ => absurd h (Nat.not_lt.mpr (Nat.le_add_left 9 _))
  Φ t := Phi m c t.val
  q _ := fullShare
  owed _ := 0

theorem A_eq (c : Dev nD) (w : Fin cfg0.W) : (dats m 0 c).A w = V m c (Pipeline.arrRef spec0 w) := by dsimp only [dats]

/-! ## Conditions over the grid -/

theorem firstCond_iff : ∀ t : Fin cfg0.N, firstCond (grid0.coords t) = 1#1 ↔ t.val % 4 = 0 := by
  change ∀ t : Fin grid0.N, firstCond (grid0.coords t) = 1#1 ↔ t.val % 4 = 0
  decide +kernel
theorem lastCond_iff : ∀ t : Fin cfg0.N, k0_cond10 (grid0.coords t) = 1#1 ↔ t.val % 4 = 3 := by
  change ∀ t : Fin grid0.N, k0_cond10 (grid0.coords t) = 1#1 ↔ t.val % 4 = 3
  decide +kernel

theorem tileFirst_eq (t : Fin cfg0.N) (h : t.val % 4 = 0) : tileFirst t.val = t := by
  apply Fin.ext
  have : t.val < 64 := lt_of_lt_of_eq t.isLt N_0
  simp only [tileFirst]; omega
theorem tileFirst_succ (n : ℕ) (h : ¬ (n + 1) % 4 = 0) : tileFirst (n + 1) = tileFirst n := by
  apply Fin.ext; simp only [tileFirst]
  have : (n + 1) / 4 = n / 4 := by omega
  rw [this]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t)
    ∗ (match cfg0.idle 8 (cfg0.grid.coords t) with
       | true => match (cfg0.win 8).flush t with
         | false => iprop(∃ d, owns (c : Thread nD τ) (win0_8.stage (cfg0.slots t 8)) fullShare ((dats m 0 c).before 8 t d))
         | true => owns (c : Thread nD τ) (win0_8.stage (cfg0.slots t 8)) fullShare (outOf m c t)
       | false => owns (c : Thread nD τ) (win0_8.stage (cfg0.slots t 8)) fullShare (outOf m c t)))

/-- The output block as the obligation asks for it, from what the run leaves there. -/
theorem leave8 (c : Dev nD) (t : Fin cfg0.N) (d) :
    owns (c : Thread nD τ) (win0_8.stage (cfg0.slots t 8)) fullShare (if k0_cond10 (grid0.coords t) = 1#1 then outOf m c t else (dats m 0 c).before 8 t d)
      ⊢ (match cfg0.idle 8 (cfg0.grid.coords t) with
       | true => match (cfg0.win 8).flush t with
         | false => iprop(∃ d, owns (c : Thread nD τ) (win0_8.stage (cfg0.slots t 8)) fullShare ((dats m 0 c).before 8 t d))
         | true => owns (c : Thread nD τ) (win0_8.stage (cfg0.slots t 8)) fullShare (outOf m c t)
       | false => owns (c : Thread nD τ) (win0_8.stage (cfg0.slots t 8)) fullShare (outOf m c t) : sProp 𝕄) := by
  by_cases hl : k0_cond10 (grid0.coords t) = 1#1
  · have hi : cfg0.idle 8 (cfg0.grid.coords t) = false := by
      show (!(k0_cond10 (grid0.coords t) == 1#1)) = false
      rw [hl]; rfl
    rw [hi, if_pos hl]
  · have hi : cfg0.idle 8 (cfg0.grid.coords t) = true := by
      show (!(k0_cond10 (grid0.coords t) == 1#1)) = true
      rw [beq_false_of_ne hl]; rfl
    have hf : (cfg0.win 8).flush t = false := by
      rw [Bool.eq_false_iff, ne_eq, flush0_8, ← lastCond_iff]; exact hl
    rw [hi, hf, if_neg hl]
    iintro H; iexists d; iexact H

/-- The scratch at the next point, from what the run leaves in it. -/
theorem Phi_close (c : Dev nD) (t : Fin cfg0.N) :
    iprop((owns (c : Thread nD τ) (Memref.whole cc0_scratch0) fullShare (ptOf m c t.val) ∗ owns (c : Thread nD τ) (Memref.whole cc0_scratch1) fullShare (hsOf m c t.val) ∗ owns (c : Thread nD τ) (Memref.whole cc0_scratch2) fullShare (csOf m c t.val) ∗ owns (c : Thread nD τ) (Memref.whole cc0_scratch3) fullShare (acc m c (t.val + 1)) ∗ owns (c : Thread nD τ) (Memref.whole cc0_scratch4) fullShare (segOf m c t.val))
      ∗ ∃ r, prngReg c r) ⊢ (Phi m c (t.val + 1) : sProp 𝕄) := by
  unfold Phi
  by_cases h : (t.val + 1) % 4 = 0
  · rw [if_pos h, PhiA_eq]
    iintro ⟨⟨H0, H1, H2, H3, H4⟩, Hg⟩
    isplitr [Hg]
    · isplitl [H0]; · iexists _; iexact H0
      isplitl [H1]; · iexists _; iexact H1
      isplitl [H2]; · iexists _; iexact H2
      isplitl [H3]; · iexists _; iexact H3
      iexists _; iexact H4
    iexact Hg
  · rw [if_neg h]
    unfold ptOf hsOf csOf segOf cbOf triOf hOf
    rw [tileFirst_succ _ h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Phi m c t.val from rfl, show (dats m 0 c).Φ t.succ = Phi m c (t.val + 1) from rfl,
    show (dats m 0 c).owesAt () t.succ = (dats m 0 c).owesAt () t.castSucc from rfl]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl)]
  by_cases h0 : t.val % 4 = 0
  · rw [show Phi m c t.val = Pipeline.ΦA spec0 c from if_pos h0, PhiA_eq]
    iintro ⟨⟨⟨S0, S1, S2, S3, S4⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
    iapply (wp_body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (hOf m c t.val) (cbOf m c t.val) (iblk m c 2 t) (triOf m c t.val)
      (iblk m c 4 t) (iblk m c 5 t) (iblk m c 6 t) (iblk m c 7 t) ((dats m 0 c).before 8 t d8) ((firstCond_iff t).mpr h0) _)
    isplitl [W0]; · rw [hOf, tileFirst_eq t h0]; iexact W0
    isplitl [W1]; · rw [cbOf, tileFirst_eq t h0]; iexact W1
    isplitl [W2]; · iexact W2
    isplitl [W3]; · rw [triOf, tileFirst_eq t h0]; iexact W3
    isplitl [W4]; · iexact W4
    isplitl [W5]; · iexact W5
    isplitl [W6]; · iexact W6
    isplitl [W7]; · iexact W7
    isplitl [W8]; · iexact W8
    isplitl [S0]; · iexact S0
    isplitl [S1]; · iexact S1
    isplitl [S2]; · iexact S2
    isplitl [S3]; · iexact S3
    isplitl [S4]; · iexact S4
    iintro ⟨W0, W1, W2, W3, W4, W5, W6, W7, W8, S0, S1, S2, S3, S4⟩
    isplitl [S0 S1 S2 S3 S4 Hg]
    · iapply (Phi_close m c t)
      isplitr [Hg]
      · isplitl [S0]; · iexact S0
        isplitl [S1]; · iexact S1
        isplitl [S2]; · iexact S2
        isplitl [S3]; · rw [acc_succ, if_pos h0]; iexact S3
        iexact S4
      iexact Hg
    isplitl [HO]; · iexact HO
    isplitl [W0]; · rw [hOf, tileFirst_eq t h0]; iexact W0
    isplitl [W1]; · rw [cbOf, tileFirst_eq t h0]; iexact W1
    isplitl [W2]; · iexact W2
    isplitl [W3]; · rw [triOf, tileFirst_eq t h0]; iexact W3
    isplitl [W4]; · iexact W4
    isplitl [W5]; · iexact W5
    isplitl [W6]; · iexact W6
    isplitl [W7]; · iexact W7
    iapply (leave8 m c t d8)
    unfold outOf
    rw [acc_succ, if_pos h0]
    iexact W8
  · rw [show Phi m c t.val = _ from if_neg h0]
    iintro ⟨⟨⟨S0, S1, S2, S3, S4⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
    iapply (wp_body_next c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t)
      (iblk m c 4 t) (iblk m c 5 t) (iblk m c 6 t) (iblk m c 7 t) ((dats m 0 c).before 8 t d8) (ptOf m c t.val) (hsOf m c t.val)
      (csOf m c t.val) (acc m c t.val) (segOf m c t.val) (mt (firstCond_iff t).mp h0) _)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [S0]; · iexact S0
    isplitl [S1]; · iexact S1
    isplitl [S2]; · iexact S2
    isplitl [S3]; · iexact S3
    isplitl [S4]; · iexact S4
    iintro ⟨W0, W1, W2, W3, W4, W5, W6, W7, W8, S0, S1, S2, S3, S4⟩
    isplitl [S0 S1 S2 S3 S4 Hg]
    · iapply (Phi_close m c t)
      isplitr [Hg]
      · isplitl [S0]; · iexact S0
        isplitl [S1]; · iexact S1
        isplitl [S2]; · iexact S2
        isplitl [S3]; · rw [acc_succ, if_neg h0]; iexact S3
        iexact S4
      iexact Hg
    isplitl [HO]; · iexact HO
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    iapply (leave8 m c t d8)
    unfold outOf
    rw [acc_succ, if_neg h0]
    iexact W8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- At the compiled mesh, at any values, from any memory with zero counters: every weakly fair execution of @main on the
    TensorCores terminates, every array ends as the proof data say, and every semaphore counter is zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := Gen.hmain m Variants.none) (hA := A_eq m)
    (hin := fun c => .rfl) (hout := fun c => .rfl)

end Cert.KernelIdeal.Moe

end
-- ==== Proof.Frames.lean ====
/-
  What the run leaves alone: the argument arrays and the semaphore counters.
-/
module

public import proofs.«01_k».proof.Proof.Body

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel at any values: every execution of @main terminates without fault, the argument arrays end unchanged, and every
    semaphore counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.KernelIdeal.Moe

end
-- ==== Proof.SameProgram.lean ====
/-
  The program as printed and the program over exact values are the same text, at any values.
-/
module

public import proofs.«01_k».proof.Kernel
public import proofs.«01_k».proof.KernelIdeal

@[expose] public section

set_option maxRecDepth 16384

noncomputable section

namespace Cert.SameProgram

open Idealize.ShloMosaic Idealize.SL.Sem

set_option maxHeartbeats 4000000 in
/-- The two programs' host functions are the same program. -/
theorem main_eq {F : FTy → Type} [FloatOps F] [Cert.Kernel.Facts] [hI : Cert.KernelIdeal.Facts] : @Cert.Kernel.main F _ _ = @Cert.KernelIdeal.main F _ _ := by exact rfl
set_option maxHeartbeats 4000000 in
/-- Their kernels' body tables are the same. -/
theorem table_eq {F : FTy → Type} [FloatOps F] [Cert.Kernel.Facts] [hI : Cert.KernelIdeal.Facts] : @Cert.Kernel.defs₀ F _ _ = @Cert.KernelIdeal.defs₀ F _ _ := by
  unfold Cert.Kernel.defs₀ Cert.KernelIdeal.defs₀
  refine congrArg Defs.onTc (funext fun l => ?_)
  obtain ⟨n, hn⟩ := l
  cases n with
  | zero => exact funext fun x => by exact rfl
  | succ n => exact absurd hn (Nat.not_lt.2 (Nat.le_add_left _ _))
/-- Their body tables with the pipelines are the same. -/
theorem defs_eq {F : FTy → Type} [FloatOps F] [Cert.Kernel.Facts] [hI : Cert.KernelIdeal.Facts] : @Cert.Kernel.defs F _ _ = @Cert.KernelIdeal.defs F _ _ := by
  unfold Cert.Kernel.defs Cert.KernelIdeal.defs
  rw [table_eq]
  rfl

end Cert.SameProgram

end
-- ==== Proof.SameInProj.lean ====
/-
  The input projection as printed and the program over exact values are the same text, at any values.
-/
module

public import proofs.«01_k».proof.Kernel3
public import proofs.«01_k».proof.Kernel3Ideal

@[expose] public section

set_option maxRecDepth 16384

noncomputable section

namespace Cert.SameInProj

open Idealize.ShloMosaic Idealize.SL.Sem

set_option maxHeartbeats 4000000 in
/-- The two programs' host functions are the same program. -/
theorem main_eq {F : FTy → Type} [Cert.Kernel3.Facts] [hI : Cert.Kernel3Ideal.Facts] : @Cert.Kernel3.main F _ = @Cert.Kernel3Ideal.main F _ := by exact rfl
set_option maxHeartbeats 4000000 in
/-- Their kernels' body tables are the same. -/
theorem table_eq {F : FTy → Type} [FloatOps F] [Cert.Kernel3.Facts] [hI : Cert.Kernel3Ideal.Facts] : @Cert.Kernel3.defs₀ F _ _ = @Cert.Kernel3Ideal.defs₀ F _ _ := by
  unfold Cert.Kernel3.defs₀ Cert.Kernel3Ideal.defs₀
  refine congrArg Defs.onTc (funext fun l => ?_)
  obtain ⟨n, hn⟩ := l
  cases n with
  | zero => exact funext fun x => by exact rfl
  | succ n => exact absurd hn (Nat.not_lt.2 (Nat.le_add_left _ _))
set_option maxHeartbeats 4000000 in
/-- Their body tables with the pipelines are the same. -/
theorem defs_eq {F : FTy → Type} [FloatOps F] [Cert.Kernel3.Facts] [hI : Cert.Kernel3Ideal.Facts] : @Cert.Kernel3.defs F _ _ = @Cert.Kernel3Ideal.defs F _ _ := by
  unfold Cert.Kernel3.defs Cert.Kernel3Ideal.defs
  rw [table_eq]
  rfl

end Cert.SameInProj

end
-- ==== Proof.InProjBody.lean ====
/-
  One grid point of the input projection: what its run needs and what it leaves. The first output's block is written in
  five column pieces, the keys' block in two halves of rows, the values' block at once; of the four other output blocks and
  of the scratch only that they end at some contents is stated.
-/
module

public import proofs.«01_k».proof.Proof.Gen.Kernel3Ideal.Frame
public import proofs.«01_k».proof.Proof.Gen.Kernel3Ideal.Skeleton

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The column pieces of the first output's block. -/
abbrev cols0 : Rect S512x2176 := Rect.unit (s := S512x2176) ![0, 0] S512x512.size inb_S512x2176_S512x512_0_0
abbrev cols1 : Rect S512x2176 := Rect.unit (s := S512x2176) ![0, 512] S512x512.size inb_S512x2176_S512x512_0_512
abbrev cols2 : Rect S512x2176 := Rect.unit (s := S512x2176) ![0, 1024] S512x512.size inb_S512x2176_S512x512_0_1024
abbrev cols3 : Rect S512x2176 := Rect.unit (s := S512x2176) ![0, 1536] S512x512.size inb_S512x2176_S512x512_0_1536
abbrev cols4 : Rect S512x2176 := Rect.unit (s := S512x2176) ![0, 2048] S512x128.size inb_S512x2176_S512x128_0_2048
/-- The weight columns each piece is computed from. -/
abbrev w0 : Rect S1x1024x3328 := Rect.unit (s := S1x1024x3328) ![0, 0, 0] S1x1024x512.size inb_S1x1024x3328_S1x1024x512_0_0_0
abbrev w1 : Rect S1x1024x3328 := Rect.unit (s := S1x1024x3328) ![0, 0, 512] S1x1024x512.size inb_S1x1024x3328_S1x1024x512_0_0_512
abbrev w2 : Rect S1x1024x3328 := Rect.unit (s := S1x1024x3328) ![0, 0, 1024] S1x1024x512.size inb_S1x1024x3328_S1x1024x512_0_0_1024
abbrev w3 : Rect S1x1024x3328 := Rect.unit (s := S1x1024x3328) ![0, 0, 1536] S1x1024x512.size inb_S1x1024x3328_S1x1024x512_0_0_1536
abbrev w4 : Rect S1x1024x3328 := Rect.unit (s := S1x1024x3328) ![0, 0, 2048] S1x1024x1280.size inb_S1x1024x3328_S1x1024x1280_0_0_2048

/-- The whole block of rows and the whole scale row. -/
abbrev xs : Rect S512x1024 := Rect.unit (s := S512x1024) ![0, 0] S512x1024.size inb_S512x1024_S512x1024_0_0
abbrev gs : Rect S1x1024 := Rect.unit (s := S1x1024) ![0, 0] S1x1024.size inb_S1x1024_S1x1024_0_0

/-- The block of the first output, from the block of rows, the scale row and the weights. -/
def mainBlock (x : Vec F S512x1024 .f32) (g : Vec F S1x1024 .f32) (w : Vec F S1x1024x3328 .bf16) : Vec F S512x2176 .f32 :=
  View.canon [⟨cols4, k0_pay9 (k0_pay4 (View.ld x xs) (View.ld g gs) (View.ld w w4))⟩, ⟨cols3, k0_pay8 (k0_pay3 (View.ld x xs) (View.ld g gs)) (View.ld w w3)⟩,
    ⟨cols2, k0_pay7 (k0_pay3 (View.ld x xs) (View.ld g gs)) (View.ld w w2)⟩, ⟨cols1, k0_pay6 (k0_pay3 (View.ld x xs) (View.ld g gs)) (View.ld w w1)⟩,
    ⟨cols0, k0_pay5 (View.ld x xs) (View.ld g gs) (View.ld w w0)⟩]

/-- The five pieces cover the block. -/
theorem mainCover (p4 : Vec F S512x128 .f32) (p3 p2 p1 p0 : Vec F S512x512 .f32) (y : S512x2176.Idx) :
    ∃ pc ∈ ([⟨cols4, p4⟩, ⟨cols3, p3⟩, ⟨cols2, p2⟩, ⟨cols1, p1⟩, ⟨cols0, p0⟩] : List (View.Piece (Elt F) S512x2176 .f32)), y ∈ pc.1.set := by
  have h0 : (y 0).val < 512 := (y 0).isLt
  have h1 : (y 1).val < 2176 := (y 1).isLt
  have key : ∀ (o n : ℕ) (inb), o ≤ (y 1).val → (y 1).val < o + n → y ∈ (Rect.unit (s := S512x2176) ![0, o] ![512, n] inb).set := by
    intro o n inb ho hn
    rw [Rect.mem_set_unit]
    intro a
    fin_cases a
    · exact ⟨Nat.zero_le _, lt_of_lt_of_eq h0 (Nat.zero_add 512).symm⟩
    · exact ⟨ho, hn⟩
  by_cases c4 : 2048 ≤ (y 1).val
  · exact ⟨⟨cols4, p4⟩, by simp, key 2048 128 inb_S512x2176_S512x128_0_2048 c4 (by omega)⟩
  by_cases c3 : 1536 ≤ (y 1).val
  · exact ⟨⟨cols3, p3⟩, by simp, key 1536 512 inb_S512x2176_S512x512_0_1536 c3 (by omega)⟩
  by_cases c2 : 1024 ≤ (y 1).val
  · exact ⟨⟨cols2, p2⟩, by simp, key 1024 512 inb_S512x2176_S512x512_0_1024 c2 (by omega)⟩
  by_cases c1 : 512 ≤ (y 1).val
  · exact ⟨⟨cols1, p1⟩, by simp, key 512 512 inb_S512x2176_S512x512_0_512 c1 (by omega)⟩
  exact ⟨⟨cols0, p0⟩, by simp, key 0 512 inb_S512x2176_S512x512_0_0 (Nat.zero_le _) (by omega)⟩

/-- The two halves of the rows of the keys' block. -/
abbrev top : Rect S512x512 := Rect.unit (s := S512x512) ![0, 0] S256x512.size inb_S512x512_S256x512_0_0
abbrev bottom : Rect S512x512 := Rect.unit (s := S512x512) ![256, 0] S256x512.size inb_S512x512_S256x512_256_0
/-- The whole block of values. -/
abbrev vals : Rect S1x320x512 := Rect.unit (s := S1x320x512) ![0, 0, 0] S1x320x512.size inb_S1x320x512_S1x320x512_0_0_0

/-- The tile's number in its sequence, from the point's number. -/
def place (n : ℕ) : BitVec 32 :=
  let v1 : BitVec 32 := Scalar.select (Scalar.cmpi .eq 16#32 0#32) 1#32 16#32
  let v2 : BitVec 32 := Scalar.remsi (BitVec.ofNat 32 n) v1
  let v7 : BitVec 1 := Scalar.andi (Scalar.xori (Scalar.cmpi .slt v2 0#32) (Scalar.cmpi .slt v1 0#32)) (Scalar.cmpi .ne v2 0#32)
  Scalar.select v7 (Scalar.addi v2 v1) v2
theorem place_eq : ∀ n : Fin 32, place n.val = BitVec.ofNat 32 (n.val % 16) := by decide +kernel

/-- The block of the keys at point `n`. -/
def keysBlock (n : ℕ) (x : Vec F S512x1024 .f32) (g : Vec F S1x1024 .f32) (w : Vec F S1x1024x3328 .bf16) : Vec F S512x512 .bf16 :=
  View.canon [⟨bottom, k0_pay22 (place n) (k0_pay12 (k0_pay4 (View.ld x xs) (View.ld g gs) (View.ld w w4))) (iota .tc S256x512 32 [1] iota_S256x512_d1_w32)⟩,
    ⟨top, k0_pay19 (place n) (k0_pay12 (k0_pay4 (View.ld x xs) (View.ld g gs) (View.ld w w4)))⟩]

/-- The block of the values. -/
def valuesBlock (x : Vec F S512x1024 .f32) (g : Vec F S1x1024 .f32) (w : Vec F S1x1024x3328 .bf16) : Vec F S1x320x512 .bf16 :=
  View.canon [⟨vals, k0_pay58 (k0_pay16 (k0_pay4 (View.ld x xs) (View.ld g gs) (View.ld w w4)))⟩]

/-- The two halves cover the keys' block. -/
theorem keysCover (p1 p0 : Vec F S256x512 .bf16) (y : S512x512.Idx) :
    ∃ pc ∈ ([⟨bottom, p1⟩, ⟨top, p0⟩] : List (View.Piece (Elt F) S512x512 .bf16)), y ∈ pc.1.set := by
  have h0 : (y 0).val < 512 := (y 0).isLt
  have h1 : (y 1).val < 512 := (y 1).isLt
  have key : ∀ (o : ℕ) (inb), o ≤ (y 0).val → (y 0).val < o + 256 → y ∈ (Rect.unit (s := S512x512) ![o, 0] ![256, 512] inb).set := by
    intro o inb ho hn
    rw [Rect.mem_set_unit]
    intro a
    fin_cases a
    · exact ⟨ho, hn⟩
    · exact ⟨Nat.zero_le _, lt_of_lt_of_eq h1 (Nat.zero_add 512).symm⟩
  by_cases c : 256 ≤ (y 0).val
  · exact ⟨⟨bottom, p1⟩, by simp, key 256 inb_S512x512_S256x512_256_0 c (by omega)⟩
  exact ⟨⟨top, p0⟩, by simp, key 0 inb_S512x512_S256x512_0_0 (Nat.zero_le _) (by omega)⟩

/-- The values' one piece covers the block. -/
theorem valuesCover (p : Vec F S1x320x512 .bf16) (y : S1x320x512.Idx) :
    ∃ pc ∈ ([⟨vals, p⟩] : List (View.Piece (Elt F) S1x320x512 .bf16)), y ∈ pc.1.set := by
  have h0 : (y 0).val < 1 := (y 0).isLt
  have h1 : (y 1).val < 320 := (y 1).isLt
  have h2 : (y 2).val < 512 := (y 2).isLt
  refine ⟨⟨vals, p⟩, by simp, ?_⟩
  rw [Rect.mem_set_unit]
  intro a
  fin_cases a
  · exact ⟨Nat.zero_le _, lt_of_lt_of_eq h0 (Nat.zero_add 1).symm⟩
  · exact ⟨Nat.zero_le _, lt_of_lt_of_eq h1 (Nat.zero_add 320).symm⟩
  · exact ⟨Nat.zero_le _, lt_of_lt_of_eq h2 (Nat.zero_add 512).symm⟩

/-- The scratch row a point's part `j` uses, from the point's number. -/
def scratchRow (n : ℕ) (j : BitVec 32) : ℕ :=
  (Scalar.indexCast (Scalar.addi (Scalar.muli (place n) 2#32) j)).toNat
theorem scratchRow_zero : ∀ n : Fin 32, scratchRow n.val 0#32 = 2 * (n.val % 16) := by decide +kernel
theorem scratchRow_one : ∀ n : Fin 32, scratchRow n.val 1#32 = 2 * (n.val % 16) + 1 := by decide +kernel
instance (i : grid0.Coords) : ClosedOff (k0_off1 i 0#32) :=
  ⟨![2 * ((i 0).val % 16), 0], (show k0_off1 i 0#32 = ![scratchRow (i 0).val 0#32, 0] from rfl).trans
    (congrArg (fun r : ℕ => (![r, 0] : Fin 2 → ℕ)) (scratchRow_zero (i 0)))⟩
instance (i : grid0.Coords) : ClosedOff (k0_off1 i 1#32) :=
  ⟨![2 * ((i 0).val % 16) + 1, 0], (show k0_off1 i 1#32 = ![scratchRow (i 0).val 1#32, 0] from rfl).trans
    (congrArg (fun r : ℕ => (![r, 0] : Fin 2 → ℕ)) (scratchRow_one (i 0)))⟩

section
variable (c : Dev nD) (i : grid0.Coords)
    (arg1 : Memref sig .tc .vmem S512x1024 .f32) (harg1 : arg1.IsWhole)
    (arg2 : Memref sig .tc .vmem S1x1024 .f32) (harg2 : arg2.IsWhole)
    (arg3 : Memref sig .tc .vmem S1x1024x3328 .bf16) (harg3 : arg3.IsWhole)
    (arg4 : Memref sig .tc .vmem S512x128 .f32) (harg4 : arg4.IsWhole)
    (arg5 : Memref sig .tc .vmem S512x128 .f32) (harg5 : arg5.IsWhole)
    (arg6 : Memref sig .tc .vmem S1x128x512 .f32) (harg6 : arg6.IsWhole)
    (arg7 : Memref sig .tc .vmem S1x128x512 .f32) (harg7 : arg7.IsWhole)
    (arg8 : Memref sig .tc .vmem S1x256 .f32) (harg8 : arg8.IsWhole)
    (arg9 : Memref sig .tc .vmem S256x1024 .bf16) (harg9 : arg9.IsWhole)
    (arg10 : Memref sig .tc .vmem S1x128 .f32) (harg10 : arg10.IsWhole)
    (arg11 : Memref sig .tc .vmem S128x512 .bf16) (harg11 : arg11.IsWhole)
    (arg12 : Memref sig .tc .vmem S128x384 .bf16) (harg12 : arg12.IsWhole)
    (arg13 : Memref sig .tc .vmem S1x128 .f32) (harg13 : arg13.IsWhole)
    (arg14 : Memref sig .tc .vmem S512x2176 .f32) (harg14 : arg14.IsWhole)
    (arg15 : Memref sig .tc .vmem S512x512 .bf16) (harg15 : arg15.IsWhole)
    (arg16 : Memref sig .tc .vmem S1x512x512 .bf16) (harg16 : arg16.IsWhole)
    (arg17 : Memref sig .tc .vmem S1x320x512 .bf16) (harg17 : arg17.IsWhole)
    (arg18 : Memref sig .tc .vmem S1x512x512 .bf16) (harg18 : arg18.IsWhole)
    (arg19 : Memref sig .tc .vmem S512x512 .bf16) (harg19 : arg19.IsWhole)
    (arg20 : Memref sig .tc .vmem S1x320x512 .bf16) (harg20 : arg20.IsWhole)
    (arg21 : Memref sig .tc .vmem S32x512 .f32) (harg21 : arg21.IsWhole)
    (x0 : Vec F S512x1024 .f32) (x1 : Vec F S1x1024 .f32) (x2 : Vec F S1x1024x3328 .bf16) (x3 : Vec F S512x128 .f32) (x4 : Vec F S512x128 .f32) (x5 : Vec F S1x128x512 .f32) (x6 : Vec F S1x128x512 .f32) (x7 : Vec F S1x256 .f32) (x8 : Vec F S256x1024 .bf16) (x9 : Vec F S1x128 .f32) (x10 : Vec F S128x512 .bf16) (x11 : Vec F S128x384 .bf16) (x12 : Vec F S1x128 .f32)

set_option maxHeartbeats 4000000 in
/-- One point's run. -/
theorem wp_point (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (mainBlock x0 x1 x2) ∗ owns (c : Thread nD τ) arg15 fullShare (keysBlock (i 0).val x0 x1 x2) ∗ (∃ d, owns (c : Thread nD τ) arg16 fullShare d) ∗ owns (c : Thread nD τ) arg17 fullShare (valuesBlock x0 x1 x2) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ Q ⟨⟩))
      ⊢ wp frame (wpE (defs₀ (F := F)) Variants.none c none) Set.univ (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (mainCover _ _ _ _ _)).trans ?_
    rfl
  isplitl [H14]
  · iexists _; isplitr
    swap; · iexact H14
    ipureintro
    refine (View.read_writes_eq_canon _ _ _ (keysCover _ _)).trans ?_
    rfl
  isplitl [H15]
  · iexists _, _; isplitr
    swap; · iexact H15
    ipureintro; rfl
  isplitl [H16]
  · iexists _; isplitr
    swap; · iexact H16
    ipureintro
    refine (View.read_writes_eq_canon _ _ _ (valuesCover _)).trans ?_
    rfl
  isplitl [H17]
  · iexists _, _; isplitr
    swap; · iexact H17
    ipureintro; rfl
  isplitl [H18]
  · iexists _, _; isplitr
    swap; · iexact H18
    ipureintro; rfl
  isplitl [H19]
  · iexists _, _; isplitr
    swap; · iexact H19
    ipureintro; rfl
  iexists _, _; isplitr
  swap; · iexact H20
  ipureintro; rfl

end

end Cert.Kernel3Ideal.InProj

end
-- ==== Proof.InProjRun.lean ====
/-
  The input projection's run on the whole grid: the proof data, the body at every point, the launch, and what it leaves alone. The
  outputs other than the first, the keys and the values are handed to the body and taken back at contents nothing is said of.
-/
module

public import proofs.«01_k».proof.Proof.Gen.Kernel3Ideal.Frame
public import proofs.«01_k».proof.Proof.Gen.Kernel3Ideal.Skeleton
public import proofs.«01_k».proof.Proof.InProjBody

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs nothing is said of. -/
def fgt (w : Fin cfg0.W) : Bool := Nat.beq w.val 15 || Nat.ble 17 w.val

/-- The scratch at anything. -/
theorem PhiA_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]; simp only [owns_whole]; try rfl

/-- The proof data: inputs stay at their blocks, the three outputs' blocks are `mainBlock`, `keysBlock` and `valuesBlock` (the
    entries of the other outputs are not used). -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => mainBlock (iblk m c 0 t) (iblk m c 1 t) (iblk m c 2 t)
    | 14 => keysBlock (grid0.coords t 0).val (iblk m c 0 t) (iblk m c 1 t) (iblk m c 2 t)
    | 15 => iblk m c 15 t
    | 16 => valuesBlock (iblk m c 0 t) (iblk m c 1 t) (iblk m c 2 t)
    | 17 => iblk m c 17 t
    | 18 => iblk m c 18 t
    | 19 => iblk m c 19 t
    | ⟨_ + 20, h⟩ => absurd h (Nat.not_lt.mpr (Nat.le_add_left 20 _))
  Φ _ := Pipeline.ΦA spec0 c
  q _ := fullShare
  owed _ := 0

theorem A_eq (c : Dev nD) (w : Fin cfg0.W) : (dats m 0 c).A w = V m c (Pipeline.arrRef spec0 w) := by dsimp only [dats]
theorem after13 (c : Dev nD) (t : Fin cfg0.N) : (dats m 0 c).after 13 t = mainBlock (iblk m c 0 t) (iblk m c 1 t) (iblk m c 2 t) := rfl
theorem after14 (c : Dev nD) (t : Fin cfg0.N) : (dats m 0 c).after 14 t = keysBlock (grid0.coords t 0).val (iblk m c 0 t) (iblk m c 1 t) (iblk m c 2 t) := by dsimp only [dats]
theorem after16 (c : Dev nD) (t : Fin cfg0.N) : (dats m 0 c).after 16 t = valuesBlock (iblk m c 0 t) (iblk m c 1 t) (iblk m c 2 t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ X, owns (c : Thread nD τ) (win0_15.stage (cfg0.slots t 15)) fullShare X) ∗ (∃ d, owns (c : Thread nD τ) (win0_16.stage (cfg0.slots t 16)) fullShare ((dats m 0 c).before 16 t d)) ∗ (∃ X, owns (c : Thread nD τ) (win0_17.stage (cfg0.slots t 17)) fullShare X) ∗ (∃ X, owns (c : Thread nD τ) (win0_18.stage (cfg0.slots t 18)) fullShare X) ∗ (∃ X, owns (c : Thread nD τ) (win0_19.stage (cfg0.slots t 19)) fullShare X))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (mainBlock (iblk m c 0 t) (iblk m c 1 t) (iblk m c 2 t)) ∗ owns (c : Thread nD τ) (win0_14.stage (cfg0.slots t 14)) fullShare (keysBlock (grid0.coords t 0).val (iblk m c 0 t) (iblk m c 1 t) (iblk m c 2 t)) ∗ (∃ X, owns (c : Thread nD τ) (win0_15.stage (cfg0.slots t 15)) fullShare X) ∗ owns (c : Thread nD τ) (win0_16.stage (cfg0.slots t 16)) fullShare (valuesBlock (iblk m c 0 t) (iblk m c 1 t) (iblk m c 2 t)) ∗ (∃ X, owns (c : Thread nD τ) (win0_17.stage (cfg0.slots t 17)) fullShare X) ∗ (∃ X, owns (c : Thread nD τ) (win0_18.stage (cfg0.slots t 18)) fullShare X) ∗ (∃ X, owns (c : Thread nD τ) (win0_19.stage (cfg0.slots t 19)) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, PhiA_eq]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl), before0_11_of m (dats m 0 c) (A_eq m c 11) (fun _ => rfl), before0_12_of m (dats m 0 c) (A_eq m c 12) (fun _ => rfl)]
  iintro ⟨⟨S0, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, W15, ⟨%d16, W16⟩, W17, W18, W19⟩
  iapply (wp_point c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexists _; iexact W13
  isplitl [W14]; · iexists _; iexact W14
  isplitl [W15]; · iexact W15
  isplitl [W16]; · iexists _; iexact W16
  isplitl [W17]; · iexact W17
  isplitl [W18]; · iexact W18
  isplitl [W19]; · iexact W19
  isplitl [S0]; · iexact S0
  iintro ⟨W0, W1, W2, W3, W4, W5, W6, W7, W8, W9, W10, W11, W12, W13, W14, W15, W16, W17, W18, W19, S0⟩
  isplitl [S0 Hg]
  · isplitl [S0]; · iexact S0
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  isplitl [W17]; · iexact W17
  isplitl [W18]; · iexact W18
  iexact W19

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

/-! ## The launch -/

set_option backward.isDefEq.respectTransparency.types false in
/-- Every weakly fair execution of @main terminates, every array not forgotten ends as the proof data say, and every semaphore
    counter is zero. -/
theorem run_main :
    θ_run defs (onTc (τ := τ) (main (F := F))) (s₀ m ρ)
      (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := Gen.hmain m Variants.none) (hA := A_eq m) (hΦ := fun _ _ => rfl)
    (hQ' := fun _ h => h)

/-- An array not forgotten, at the end. -/
theorem arr_end {r : PUnit × MemSt nD τ sig (Elt F)} (h : Pipeline.RDat.FramePost cfg0 (fun c => (dats m 0 c).toRForget fgt) (V m) r) (c : Dev nD)
    (w : Fin cfg0.W) (hw : fgt w = false) :
    r.2.mem ((cfg0.spec w).arr.view.loc (c.tc : Thread nD τ)) = (dats m 0 c).arrAt w cfg0.N :=
  ((dats m 0 c).toRForget_arrAt_iff hw _ _).mp ((h c).1 w)

set_option maxHeartbeats 2000000 in
/-- The kernel at any values: every execution of @main terminates without fault, the argument arrays end unchanged, and every
    semaphore counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun r h => ⟨fun c => ⟨(arr_end m h.1 c 0 rfl).trans (((dats m 0 c).arrAt_in 0 rfl _).trans ((A_eq m c 0).trans (V_main_arg0 m c))),
      ((h.1 c).2 main_arg1 (Pipeline.mem_restRefs_of main_arg1 (by decide) (by decide))).trans (V_main_arg1 m c),
      (arr_end m h.1 c 2 rfl).trans (((dats m 0 c).arrAt_in 2 rfl _).trans ((A_eq m c 2).trans (V_main_arg2 m c))),
      (arr_end m h.1 c 3 rfl).trans (((dats m 0 c).arrAt_in 3 rfl _).trans ((A_eq m c 3).trans (V_main_arg3 m c))),
      (arr_end m h.1 c 4 rfl).trans (((dats m 0 c).arrAt_in 4 rfl _).trans ((A_eq m c 4).trans (V_main_arg4 m c))),
      (arr_end m h.1 c 5 rfl).trans (((dats m 0 c).arrAt_in 5 rfl _).trans ((A_eq m c 5).trans (V_main_arg5 m c))),
      (arr_end m h.1 c 6 rfl).trans (((dats m 0 c).arrAt_in 6 rfl _).trans ((A_eq m c 6).trans (V_main_arg6 m c))),
      ((h.1 c).2 main_arg7 (Pipeline.mem_restRefs_of main_arg7 (by decide) (by decide))).trans (V_main_arg7 m c),
      (arr_end m h.1 c 8 rfl).trans (((dats m 0 c).arrAt_in 8 rfl _).trans ((A_eq m c 8).trans (V_main_arg8 m c))),
      ((h.1 c).2 main_arg9 (Pipeline.mem_restRefs_of main_arg9 (by decide) (by decide))).trans (V_main_arg9 m c),
      (arr_end m h.1 c 10 rfl).trans (((dats m 0 c).arrAt_in 10 rfl _).trans ((A_eq m c 10).trans (V_main_arg10 m c))),
      (arr_end m h.1 c 11 rfl).trans (((dats m 0 c).arrAt_in 11 rfl _).trans ((A_eq m c 11).trans (V_main_arg11 m c))),
      (arr_end m h.1 c 12 rfl).trans (((dats m 0 c).arrAt_in 12 rfl _).trans ((A_eq m c 12).trans (V_main_arg12 m c)))⟩, h.2⟩) (run_main m ρ)

end Cert.Kernel3Ideal.InProj

end
-- ==== Proof.Words.lean ====
/-
  The words and constants of the kernel as numbers: comparison of small words, conversion of a natural number, the constant one half,
  and the gate's sigmoid written with the hyperbolic tangent.
-/
module

public import Idealize.ShloMosaic.Lib.Pointwise

@[expose] public section

set_option maxRecDepth 16384

noncomputable section

namespace Cert.Words

open Idealize.ShloMosaic

/-- Choosing by the equality of two small words is choosing by the equality of the numbers. -/
theorem select_eq {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  have h : (BitVec.ofNat 32 a = BitVec.ofNat 32 b) ↔ a = b := by
    constructor
    · intro e
      have := congrArg BitVec.toNat e
      rwa [BitVec.toNat_ofNat, BitVec.toNat_ofNat, Nat.mod_eq_of_lt ha, Nat.mod_eq_of_lt hb] at this
    · intro e; rw [e]
  by_cases e : a = b
  · subst e; simp [Scalar.select, IntOp.cmpi]
  · have : BitVec.ofNat 32 a ≠ BitVec.ofNat 32 b := fun c => e (h.mp c)
    have h0 : (BitVec.ofNat 32 a == BitVec.ofNat 32 b) = false := beq_eq_false_iff_ne.mpr this
    rw [if_neg e]
    show (if BitVec.ofBool (BitVec.ofNat 32 a == BitVec.ofNat 32 b) = 1#1 then x else y) = y
    rw [h0]; rfl

/-- Choosing by the signed order of two small words is choosing by the order of the numbers. -/
theorem select_sge {α : Type} (a b : ℕ) (ha : a < 2 ^ 31) (hb : b < 2 ^ 31) (x y : α) :
    Scalar.select (IntOp.cmpi CmpIPredicate.sge (BitVec.ofNat 32 a) (BitVec.ofNat 32 b)) x y = if b ≤ a then x else y := by
  have i : ∀ n < 2 ^ 31, (BitVec.ofNat 32 n).toInt = (n : ℤ) := fun n hn => by
    rw [BitVec.toInt_eq_toNat_cond, BitVec.toNat_ofNat, Nat.mod_eq_of_lt (by omega), if_pos (by omega)]
  have e : (BitVec.ofNat 32 b).sle (BitVec.ofNat 32 a) = decide (b ≤ a) := by
    rw [BitVec.sle, i a ha, i b hb]; simp
  show (if BitVec.ofBool ((BitVec.ofNat 32 b).sle (BitVec.ofNat 32 a)) = 1#1 then x else y) = _
  rw [e]
  by_cases h : b ≤ a <;> simp [h]

/-- A natural number below `2 ^ 31` becomes the word of that number. -/
theorem fptosi_nat (n : ℕ) (hn : n < 2 ^ 31) : Ideal.fptosi 32 (n : EReal) = BitVec.ofNat 32 n := by
  rw [← EReal.coe_natCast, Ideal.fptosi, Ideal.toIntClamped_coe, if_pos (by positivity), Int.floor_natCast]
  rw [min_eq_right (by norm_num; omega), max_eq_right (by norm_num)]
  rw [BitVec.ofInt_natCast]

/-- The word of a natural number below `2 ^ 31`, read back signed, is that number. -/
theorem sitofp_nat (n : ℕ) (hn : n < 2 ^ 31) : (((BitVec.ofNat 32 n).toInt : ℝ) : EReal) = (n : EReal) := by
  have : (BitVec.ofNat 32 n).toInt = (n : ℤ) := by
    rw [BitVec.toInt_eq_toNat_cond, BitVec.toNat_ofNat, Nat.mod_eq_of_lt (by omega), if_pos (by omega)]
  rw [this, Int.cast_natCast, EReal.coe_natCast]

/-- A sum over lanes of a value chosen at one lane only is the value at that lane. -/
theorem lane_sum {n : ℕ} (k : ℕ) (hk : k < n) (hn : n ≤ 2 ^ 32) (f : Fin n → EReal) :
    ∑ l : Fin n, Scalar.select (IntOp.cmpi CmpIPredicate.eq (BitVec.ofNat 32 l.val) (BitVec.ofNat 32 k)) (f l) 0 = f ⟨k, hk⟩ := by
  rw [Finset.sum_eq_single (⟨k, hk⟩ : Fin n)]
  · rw [select_eq k k (by omega) (by omega), if_pos rfl]
  · intro l _ hl
    rw [select_eq _ _ (by have := l.isLt; omega) (by omega), if_neg]
    exact fun e => hl (Fin.ext e)
  · simp

/-- A sum whose terms are a value at one index and zero times something elsewhere is the value. -/
theorem pick_sum {n : ℕ} (k : Fin n) (c f : Fin n → EReal) (hk : c k = 1) (h0 : ∀ l, l ≠ k → c l = 0) :
    ∑ l, c l * f l = f k := by
  rw [Finset.sum_eq_single k]
  · rw [hk, one_mul]
  · intro l _ hl; rw [h0 l hl, zero_mul]
  · simp

/-- The f32 pattern `0x3F000000` is one half. -/
theorem half : Ideal.ofBits .f32 0x3F000000#32 = ((1 / 2 : ℝ) : EReal) := by
  simp [Ideal.ofBits, Ideal.ieee, -EReal.coe_mul]; norm_num

/-- Half the hyperbolic tangent of half a number, plus a half, is the sigmoid, at the infinities too. -/
theorem sigmoid (x : EReal) :
    ((1 / 2 : ℝ) : EReal) * Ideal.tanh (((1 / 2 : ℝ) : EReal) * x) + ((1 / 2 : ℝ) : EReal) = Ideal.div 1 (1 + Ideal.exp (-x)) := by
  induction x using EReal.rec with
  | bot =>
    rw [EReal.coe_mul_bot_of_pos (by norm_num), Ideal.tanh_bot, EReal.neg_bot, Ideal.exp_top]
    have : (1 : EReal) + ⊤ = ⊤ := by rw [← EReal.coe_one]; exact EReal.coe_add_top 1
    rw [this, Ideal.div, if_neg EReal.top_ne_zero, EReal.inv_top, mul_zero]
    rw [show (-1 : EReal) = ((-1 : ℝ) : EReal) by rw [EReal.coe_neg, EReal.coe_one], ← EReal.coe_mul, ← EReal.coe_add]
    norm_num
  | top =>
    rw [EReal.coe_mul_top_of_pos (by norm_num), Ideal.tanh_top, EReal.neg_top, Ideal.exp_bot]
    rw [add_zero, EReal.coe_one.symm, Ideal.div_coe (by norm_num), ← EReal.coe_mul, ← EReal.coe_mul, ← EReal.coe_add]
    norm_num
  | coe r =>
    rw [← EReal.coe_mul, Ideal.tanh_coe, ← EReal.coe_neg, Ideal.exp_coe, EReal.coe_one.symm, ← EReal.coe_add,
      Ideal.div_coe (by positivity), ← EReal.coe_mul, ← EReal.coe_mul, ← EReal.coe_add]
    congr 1
    have hp := Real.exp_pos (1 / 2 * r)
    have e1 : Real.exp (-r) = Real.exp (-(1 / 2 * r)) / Real.exp (1 / 2 * r) := by
      rw [← Real.exp_sub]; congr 1; ring
    rw [Real.tanh_eq_sinh_div_cosh, Real.sinh_eq, Real.cosh_eq, e1]
    have h2 := Real.exp_pos (-(1 / 2 * r))
    field_simp
    ring

end Cert.Words

end
-- ==== Proof.Step.lean ====
/-
  One block of a group at the extended reals: on a row it covers, the accumulator grows by the row's weighted outputs of the group's four
  experts.
-/
module

public import proofs.«01_k».proof.Proof.Group
public import proofs.«01_k».proof.Proof.Words

@[expose] public section

set_option maxRecDepth 16384

noncomputable section

namespace Cert.KernelIdeal.Moe

open Cert.KernelIdeal Cert.KernelIdeal.Gen Cert.Words
open Idealize.ShloMosaic Idealize.ShloMosaic.TcCoe

/-- An expert's weighted output, at one output column: the gated product of the two projections of the row, weighted, against the column
    of the third matrix. -/
def expertTerm (x : Fin 1024 → EReal) (wt : EReal) (wg wu : Fin 1024 → Fin 256 → EReal) (wd : Fin 256 → EReal) : EReal :=
  ∑ f : Fin 256, ((∑ k : Fin 1024, x k * wg k f) * Ideal.div 1 (1 + Ideal.exp (-(∑ k : Fin 1024, x k * wg k f)))
    * (∑ k : Fin 1024, x k * wu k f) * wt) * wd f

theorem expertTerm_zero (x : Fin 1024 → EReal) (wg wu : Fin 1024 → Fin 256 → EReal) (wd : Fin 256 → EReal) :
    expertTerm x 0 wg wu wd = 0 :=
  Finset.sum_eq_zero fun f _ => by rw [mul_zero, zero_mul]

/-- The weighted outputs of group `g`'s four experts on row `p`, at column `d`. -/
def groupTerm (g : ℕ) (hg : g < 4) (wg wu : Vec Ideal S4x1024x256 .bf16) (wd : Vec Ideal S4x256x1024 .bf16)
    (hs : Vec Ideal S1024x1024 .bf16) (cs : Vec Ideal S1024x128 .f32) (p d : Fin 1024) : EReal :=
  ∑ j : Fin 4, expertTerm (fun k => hs (ix2 p k)) (cs (ix2 p ⟨4 * g + j.val, by have := j.isLt; omega⟩))
    (fun k f => wg (ix3 j k f)) (fun k f => wu (ix3 j k f)) (fun f => wd (ix3 j f d))

/-- The group's terms on a row whose weights for the group are all zero add up to zero. -/
theorem groupTerm_zero (g : ℕ) (hg : g < 4) (wg wu : Vec Ideal S4x1024x256 .bf16) (wd : Vec Ideal S4x256x1024 .bf16)
    (hs : Vec Ideal S1024x1024 .bf16) (cs : Vec Ideal S1024x128 .f32) (p d : Fin 1024)
    (h : ∀ j : Fin 4, cs (ix2 p ⟨4 * g + j.val, by have := j.isLt; omega⟩) = 0) : groupTerm g hg wg wu wd hs cs p d = 0 :=
  Finset.sum_eq_zero fun j _ => by rw [h j, expertTerm_zero]

theorem laneWord (g : ℕ) (hg : g < 4) (j : ℕ) (hj : j < 4) :
    Scalar.addi (Scalar.muli (BitVec.ofNat 32 g) 4#32) (BitVec.ofNat 32 j) = BitVec.ofNat 32 (4 * g + j) := by
  interval_cases g <;> interval_cases j <;> rfl

/-- Plane `j` of a stack of matrices, read as a stack of one. -/
theorem ld_plane {α : EltTy → Type} {e : EltTy} {n a b : ℕ} (X : (⟨3, ![n, a, b]⟩ : Shape).Idx → α e) (j : ℕ) (hj : j < n)
    (inb : ∀ q, (![j, 0, 0] : Fin 3 → ℕ) q + (![1, a, b] : Fin 3 → ℕ) q ≤ (![n, a, b] : Fin 3 → ℕ) q) (x : Fin a) (y : Fin b) :
    View.ld X (Rect.unit (s := ⟨3, ![n, a, b]⟩) ![j, 0, 0] ![1, a, b] inb) (ix3 (0 : Fin 1) x y) = X (ix3 ⟨j, hj⟩ x y) := by
  refine congrArg X (funext fun q => Fin.ext ?_)
  fin_cases q <;> simp [ix3]

/-- One expert's sum as the kernel's block computes it, the sigmoid by the hyperbolic tangent and the weight picked from its lane. -/
theorem expert_printed (g : ℕ) (hg : g < 4) (j : ℕ) (hj : j < 4) (x : Fin 1024 → EReal) (w : Fin 128 → EReal)
    (wg wu : Fin 1024 → Fin 256 → EReal) (wd : Fin 256 → EReal) :
    ∑ f : Fin 256, ((∑ k : Fin 1024, x k * wg k f)
        * (Ideal.ofBits .f32 0x3F000000#32 * Ideal.tanh (Ideal.ofBits .f32 0x3F000000#32 * ∑ k : Fin 1024, x k * wg k f)
          + Ideal.ofBits .f32 0x3F000000#32)
        * (∑ k : Fin 1024, x k * wu k f)
        * ∑ l : Fin 128, Scalar.select (IntOp.cmpi CmpIPredicate.eq (BitVec.ofNat 32 l.val)
            (Scalar.addi (Scalar.muli (BitVec.ofNat 32 g) 4#32) (BitVec.ofNat 32 j))) (w l) 0) * wd f
      = expertTerm x (w ⟨4 * g + j, by omega⟩) wg wu wd := by
  refine Finset.sum_congr rfl fun f _ => ?_
  rw [half, sigmoid, laneWord g hg j hj, lane_sum (4 * g + j) (by omega) (by norm_num)]

/-- A block's new accumulator rows: the old ones plus the four experts' terms. -/
theorem stepVal_apply (g : ℕ) (hg : g < 4) (x : Vec Ideal S128x1024 .bf16) (cw : Vec Ideal S128x128 .f32)
    (g0 u0 g1 u1 : Vec Ideal S1x1024x256 .bf16) (d0 : Vec Ideal S1x256x1024 .bf16) (g2 u2 : Vec Ideal S1x1024x256 .bf16)
    (d1 : Vec Ideal S1x256x1024 .bf16) (g3 u3 : Vec Ideal S1x1024x256 .bf16) (d2 d3 : Vec Ideal S1x256x1024 .bf16)
    (y : Vec Ideal S128x1024 .f32) (r : Fin 128) (d : Fin 1024) :
    stepVal (BitVec.ofNat 32 g) lanes x cw g0 u0 g1 u1 d0 g2 u2 d1 g3 u3 d2 d3 y (ix2 r d)
      = y (ix2 r d)
        + (expertTerm (fun k => x (ix2 r k)) (cw (ix2 r ⟨4 * g + 0, by omega⟩)) (fun k f => g0 (ix3 0 k f)) (fun k f => u0 (ix3 0 k f)) (fun f => d0 (ix3 0 f d))
        + expertTerm (fun k => x (ix2 r k)) (cw (ix2 r ⟨4 * g + 1, by omega⟩)) (fun k f => g1 (ix3 0 k f)) (fun k f => u1 (ix3 0 k f)) (fun f => d1 (ix3 0 f d))
        + expertTerm (fun k => x (ix2 r k)) (cw (ix2 r ⟨4 * g + 2, by omega⟩)) (fun k f => g2 (ix3 0 k f)) (fun k f => u2 (ix3 0 k f)) (fun f => d2 (ix3 0 f d))
        + expertTerm (fun k => x (ix2 r k)) (cw (ix2 r ⟨4 * g + 3, by omega⟩)) (fun k f => g3 (ix3 0 k f)) (fun k f => u3 (ix3 0 k f)) (fun f => d3 (ix3 0 f d))) := by
  rw [← expert_printed g hg 0 (by norm_num) (fun k => x (ix2 r k)) (fun l => cw (ix2 r l)), ← expert_printed g hg 1 (by norm_num) (fun k => x (ix2 r k)) (fun l => cw (ix2 r l)),
    ← expert_printed g hg 2 (by norm_num) (fun k => x (ix2 r k)) (fun l => cw (ix2 r l)), ← expert_printed g hg 3 (by norm_num) (fun k => x (ix2 r k)) (fun l => cw (ix2 r l))]
  unfold stepVal
  unfold_payloads
  pointwise

section
variable (g : ℕ) (hg : g < 4) (wg wu : Vec Ideal S4x1024x256 .bf16) (wd : Vec Ideal S4x256x1024 .bf16)
    (hs : Vec Ideal S1024x1024 .bf16) (cs : Vec Ideal S1024x128 .f32)

/-- A block's new accumulator row `lo + r`. -/
theorem blockVal_apply (lo : ℕ) (hlo : lo + 128 ≤ 1024) (y : Vec Ideal S1024x1024 .f32) (r : Fin 128) (p d : Fin 1024) (hp : p.val = lo + r.val) :
    blockVal (BitVec.ofNat 32 g) lanes wg wu wd hs cs lo hlo y (ix2 r d) = y (ix2 p d) + groupTerm g hg wg wu wd hs cs p d := by
  have row : ∀ {e : EltTy} {b : ℕ} (X : (⟨2, ![1024, b]⟩ : Shape).Idx → Elt Ideal e)
      (inb : ∀ q, (![lo, 0] : Fin 2 → ℕ) q + (![128, b] : Fin 2 → ℕ) q ≤ (![1024, b] : Fin 2 → ℕ) q) (k : Fin b),
      View.ld X (Rect.unit (s := ⟨2, ![1024, b]⟩) ![lo, 0] ![128, b] inb) (ix2 r k) = X (ix2 p k) := by
    intro e b X inb k
    refine congrArg X (funext fun q => Fin.ext ?_)
    fin_cases q <;> simp [ix2, hp]
  unfold blockVal
  rw [stepVal_apply g hg, groupTerm, Fin.sum_univ_four]
  refine congrArg₂ (· + ·) (row y _ d) ?_
  refine congrArg₂ (· + ·) (congrArg₂ (· + ·) (congrArg₂ (· + ·) ?_ ?_) ?_) ?_
  all_goals
    refine congr (congr (congr (congr (congrArg expertTerm (funext fun k => row hs _ k)) (row cs _ _)) (funext fun k => funext fun f => ?_))
      (funext fun k => funext fun f => ?_)) (funext fun f => ?_)
    all_goals exact ld_plane _ _ (by norm_num) _ _ _

/-- A block's effect on row `p`, given what the blocks before it made of the row: either the block runs, or the row's terms add up to zero. -/
theorem blockAfter_apply (b : BitVec 1) (lo : ℕ) (hlo : lo + 128 ≤ 1024) (y : Vec Ideal S1024x1024 .f32) (p d : Fin 1024) (y0 : EReal)
    (hrun : lo ≤ p.val → p.val < lo + 128 → b = 1#1 ∨ groupTerm g hg wg wu wd hs cs p d = 0)
    (hy : y (ix2 p d) = y0 + if p.val < lo then groupTerm g hg wg wu wd hs cs p d else 0) :
    blockAfter (BitVec.ofNat 32 g) lanes wg wu wd hs cs b lo hlo y (ix2 p d)
      = y0 + if p.val < lo + 128 then groupTerm g hg wg wu wd hs cs p d else 0 := by
  by_cases hin : lo ≤ p.val ∧ p.val < lo + 128
  · rw [if_neg (by omega), add_zero] at hy
    rw [if_pos hin.2]
    unfold blockAfter
    by_cases hb : b = 1#1
    · rw [if_pos hb]
      have hi : (ix2 p d : S1024x1024.Idx) = (rows lo hlo).emb (ix2 (⟨p.val - lo, by omega⟩ : Fin 128) d) := by
        refine funext fun q => Fin.ext ?_
        fin_cases q <;> simp [ix2]; omega
      rw [hi, Rect.overlay_emb, blockVal_apply g hg wg wu wd hs cs lo hlo y ⟨p.val - lo, by omega⟩ p d (by show p.val = lo + (p.val - lo); omega), hy]
    · rw [if_neg hb, hy, (hrun hin.1 hin.2).resolve_left hb, add_zero]
  · have e : (if p.val < lo + 128 then groupTerm g hg wg wu wd hs cs p d else 0) = if p.val < lo then groupTerm g hg wg wu wd hs cs p d else 0 :=
      if_congr ⟨fun h => by omega, fun h => by omega⟩ rfl rfl
    rw [e, ← hy]
    unfold blockAfter
    by_cases hb : b = 1#1
    · rw [if_pos hb]
      refine Rect.overlay_of_not_mem _ _ _ fun hm => hin ?_
      have := (Rect.mem_set_unit.mp hm) 0
      exact ⟨this.1, this.2⟩
    · rw [if_neg hb]

/-- A group's effect on row `p`: it grows by the row's terms, when every block that meets the row runs or the terms add up to zero. -/
theorem blocks_apply (s e : BitVec 32) (y : Vec Ideal S1024x1024 .f32) (p d : Fin 1024)
    (hrun : ∀ n : ℕ, n < 8 → 128 * n ≤ p.val → p.val < 128 * n + 128 →
      runs s e (BitVec.ofNat 32 (128 * n)) (BitVec.ofNat 32 (128 * n + 128)) = 1#1 ∨ groupTerm g hg wg wu wd hs cs p d = 0) :
    blocksHi (BitVec.ofNat 32 g) lanes wg wu wd hs cs s e (blocksLo (BitVec.ofNat 32 g) lanes wg wu wd hs cs s e y) (ix2 p d)
      = y (ix2 p d) + groupTerm g hg wg wu wd hs cs p d := by
  have h0 : y (ix2 p d) = y (ix2 p d) + if p.val < 0 then groupTerm g hg wg wu wd hs cs p d else 0 := by
    rw [if_neg (Nat.not_lt_zero _), add_zero]
  have last : (if p.val < 896 + 128 then groupTerm g hg wg wu wd hs cs p d else 0) = groupTerm g hg wg wu wd hs cs p d := if_pos p.isLt
  refine Eq.trans ?_ (congrArg (y (ix2 p d) + ·) last)
  unfold blocksHi blocksLo
  refine blockAfter_apply g hg wg wu wd hs cs _ 896 _ _ p d _ (hrun 7 (by norm_num)) ?_
  refine blockAfter_apply g hg wg wu wd hs cs _ 768 _ _ p d _ (hrun 6 (by norm_num)) ?_
  refine blockAfter_apply g hg wg wu wd hs cs _ 640 _ _ p d _ (hrun 5 (by norm_num)) ?_
  refine blockAfter_apply g hg wg wu wd hs cs _ 512 _ _ p d _ (hrun 4 (by norm_num)) ?_
  refine blockAfter_apply g hg wg wu wd hs cs _ 384 _ _ p d _ (hrun 3 (by norm_num)) ?_
  refine blockAfter_apply g hg wg wu wd hs cs _ 256 _ _ p d _ (hrun 2 (by norm_num)) ?_
  refine blockAfter_apply g hg wg wu wd hs cs _ 128 _ _ p d _ (hrun 1 (by norm_num)) ?_
  exact blockAfter_apply g hg wg wu wd hs cs _ 0 _ _ p d _ (hrun 0 (by norm_num)) h0

end
end Cert.KernelIdeal.Moe

end
-- ==== Proof.Formula.lean ====
/-
  What the reference computes, read at one row and column: the residual plus the sixteen experts' terms, scaled by the row's root mean
  square and the final weights.
-/
module

public import proofs.«01_k».proof.Proof.Gen.ReferenceIdeal
public import proofs.«01_k».proof.Proof.Gen.ReferenceIdeal.Run
public import proofs.«01_k».proof.Proof.Step

@[expose] public section

set_option maxRecDepth 16384

noncomputable section

namespace Cert.Formula

open Cert.ReferenceIdeal
open Idealize.ShloMosaic

/-- A row's sum `s` scaled by its root mean square and the weights `w`, at column `d`. -/
def scaled (s : Fin 1024 → EReal) (w : Fin 1024 → EReal) (d : Fin 1024) : EReal :=
  s d * Ideal.rsqrt (Ideal.div (∑ k, s k * s k) (Ideal.ofBits .f32 0x44800000#32) + Ideal.ofBits .f32 0x358637BD#32) * w d

variable (h : Vec Ideal S16384x1024 .bf16) (cb : Vec Ideal S16384x128 .f32) (xn : Vec Ideal S16384x1024 .f32)
  (wg wu : Vec Ideal S16x1024x256 .f32) (wd : Vec Ideal S16x256x1024 .f32) (w : Vec Ideal S1024 .f32)

/-- The term of expert `e` for row `n` at column `d`. -/
def term (n : Fin 16384) (d : Fin 1024) (e : Fin 16) : EReal :=
  Cert.KernelIdeal.Moe.expertTerm (fun k => h (ix2 n k)) (cb (ix2 n ⟨e.val, by have := e.isLt; omega⟩)) (fun k f => wg (ix3 e k f))
    (fun k f => wu (ix3 e k f)) (fun f => wd (ix3 e f d))

/-- The result at row `n` and column `d`. -/
def out (n : Fin 16384) (d : Fin 1024) : EReal :=
  scaled (fun k => xn (ix2 n k) + ∑ e, term h cb wg wu wd n k e) (fun k => w (ix1 k)) d

/-- Sixteen terms are the first four, the next four, and so on. -/
theorem sum_groups (f : Fin 16 → EReal) :
    ∑ e, f e = (((0 + ∑ j : Fin 4, f ⟨4 * 0 + j.val, by have := j.isLt; omega⟩) + ∑ j : Fin 4, f ⟨4 * 1 + j.val, by have := j.isLt; omega⟩)
      + ∑ j : Fin 4, f ⟨4 * 2 + j.val, by have := j.isLt; omega⟩) + ∑ j : Fin 4, f ⟨4 * 3 + j.val, by have := j.isLt; omega⟩ := by
  simp only [Fin.sum_univ_castSucc, Fin.sum_univ_zero, zero_add, add_assoc]
  rfl

end Cert.Formula

namespace Cert.ReferenceIdeal.Value

open Cert.ReferenceIdeal
open Idealize.ShloMosaic Idealize.ShloMosaic.TcCoe

/-- The reference's result at row `n` and column `d`. -/
theorem result_apply (m) (c) (n : Fin 16384) (d : Fin 1024) :
    res_main_v23 (F := Ideal) m c (ix2 n d)
      = Cert.Formula.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) n d := by
  unfold res_main_v23
  pointwise
  rfl

end Cert.ReferenceIdeal.Value

end
-- ==== Proof.InProjSpread.lean ====
/-
  The attention's keys and values in a point's block of the input projection: a head's 64 columns at the head's place, and
  what the places between hold.
-/
module

public import proofs.«01_k».proof.Proof.InProjBody
public import proofs.«01_k».proof.Proof.Formula
public import Idealize.ShloMosaic.Lib.Pointwise

@[expose] public section

set_option maxRecDepth 16384

noncomputable section

namespace Cert.Kernel3Ideal.InProj

open Cert.Kernel3Ideal Cert.Kernel3Ideal.Gen
open Idealize.ShloMosaic Idealize.ShloMosaic.TcCoe

/-- A row of keys as it is stored: head `c / 128`'s 64 keys, then a mark at place `64 + b` of the row's block `b`, else zeros. -/
def keyRow (b : ℕ) (K : Fin 256 → EReal) (c : Fin 512) : EReal :=
  if h : c.val % 128 < 64 then K ⟨64 * (c.val / 128) + c.val % 128, by have := c.isLt; omega⟩
  else if c.val % 128 = 64 + b then 1 else 0

/-- A column of values as it is stored: head `q / 80`'s 64 values, then a one, then zeros. -/
def valueColumn (K : Fin 256 → EReal) (q : Fin 320) : EReal :=
  if h : q.val % 80 < 64 then K ⟨64 * (q.val / 80) + q.val % 80, by have := q.isLt; omega⟩
  else if q.val % 80 = 64 then 1 else 0

section
variable (x : Vec Ideal S512x1024 .f32) (g : Vec Ideal S1x1024 .f32) (w : Vec Ideal S1x1024x3328 .bf16)

/-- The scaled rows of a block. -/
theorem scaledRow_apply (r : Fin 512) (k : Fin 1024) :
    k0_pay3 (View.ld x xs) (View.ld g gs) (ix2 r k) = Formula.scaled (fun k => x (ix2 r k)) (fun k => g (ix2 (0 : Fin 1) k)) k := by
  pointwise [k0_pay3]
  rfl

/-- A block's row `r` multiplied by the weights' column `d`. -/
def column (r : Fin 512) (d : Fin 3328) : EReal :=
  ∑ k : Fin 1024, Formula.scaled (fun k => x (ix2 r k)) (fun k => g (ix2 (0 : Fin 1) k)) k * w (ix3 (0 : Fin 1) k d)

theorem last_apply (r : Fin 512) (d : Fin 1280) :
    k0_pay4 (View.ld x xs) (View.ld g gs) (View.ld w w4) (ix2 r d) = column x g w r ⟨2048 + d.val, by have := d.isLt; omega⟩ := by
  pointwise [k0_pay4]
  simp only [scaledRow_apply]
  rfl
end

/-- Two entries of a row of a block, at the same column. -/
theorem same_column (v : FVec Ideal S512x1280 .f32) (r : Fin 512) {a b : ℕ} (ha : a < 1280) (hb : b < 1280) (e : a = b) :
    v (ix2 r (⟨a, ha⟩ : Fin 1280)) = v (ix2 r (⟨b, hb⟩ : Fin 1280)) := by
  subst e; rfl

/-- Eight pieces of 64 columns, every other one zero. -/
theorem keysSpread (v : FVec Ideal S512x1280 .f32) (r : Fin 512) (c : Fin 512) :
    k0_pay12 v (ix2 r c) = if h : c.val % 128 < 64 then v (ix2 r (⟨512 + (64 * (c.val / 128) + c.val % 128), by have := c.isLt; omega⟩ : Fin 1280)) else 0 := by
  have := c.isLt
  pointwise [k0_pay12]
  split_ifs <;> first | rfl | (exfalso; omega) | (rw [dif_pos (by omega)]; apply same_column; omega) | (rw [dif_neg (by omega)]) | (apply same_column; omega)

/-- Four pieces of 64 columns, each followed by zeros. -/
theorem valuesSpread (v : FVec Ideal S512x1280 .f32) (r : Fin 512) (c : Fin 384) (hc : c.val < 320) :
    k0_pay16 v (ix2 r c) = if h : c.val % 80 < 64 then v (ix2 r (⟨1024 + (64 * (c.val / 80) + c.val % 80), by omega⟩ : Fin 1280)) else 0 := by
  have := c.isLt
  pointwise [k0_pay16]
  split_ifs <;> first | rfl | (exfalso; omega) | (rw [dif_pos (by omega)]; apply same_column; omega) | (rw [dif_neg (by omega)]) | (apply same_column; omega)

/-- A select by a decided bit. -/
theorem select_if {α : Type} (P : Prop) [Decidable P] (a b : α) : Scalar.select (if P then 1#1 else 0#1) a b = if P then a else b := by
  split_ifs <;> rfl

theorem mark0 : ∀ (n : Fin 32) (c : Fin 512), IntOp.cmpi CmpIPredicate.eq (IntOp.andi (BitVec.ofNat 32 c.val) 127#32)
    (Scalar.addi (64#32) (Scalar.addi (Scalar.muli (place n.val) 2#32) 0#32)) = if c.val % 128 = 64 + 2 * (n.val % 16) then 1#1 else 0#1 := by
  decide +kernel
theorem mark1 : ∀ (n : Fin 32) (c : Fin 512), IntOp.cmpi CmpIPredicate.eq (IntOp.andi (BitVec.ofNat 32 c.val) 127#32)
    (Scalar.addi (64#32) (Scalar.addi (Scalar.muli (place n.val) 2#32) 1#32)) = if c.val % 128 = 64 + (2 * (n.val % 16) + 1) then 1#1 else 0#1 := by
  decide +kernel
theorem markOne : ∀ q : Fin 320, IntOp.ori (IntOp.ori (IntOp.ori (IntOp.cmpi CmpIPredicate.eq (BitVec.ofNat 32 q.val) 64#32)
      (IntOp.cmpi CmpIPredicate.eq (BitVec.ofNat 32 q.val) 144#32)) (IntOp.cmpi CmpIPredicate.eq (BitVec.ofNat 32 q.val) 224#32))
      (IntOp.cmpi CmpIPredicate.eq (BitVec.ofNat 32 q.val) 304#32) = if q.val % 80 = 64 then 1#1 else 0#1 := by
  decide +kernel

section
variable (x : Vec Ideal S512x1024 .f32) (g : Vec Ideal S1x1024 .f32) (w : Vec Ideal S1x1024x3328 .bf16)

/-- A row's keys, and its values, before they are stored. -/
def keysOf (r : Fin 512) (e : Fin 256) : EReal := column x g w r ⟨2560 + e.val, by have := e.isLt; omega⟩
def valuesOf (r : Fin 512) (e : Fin 256) : EReal := column x g w r ⟨3072 + e.val, by have := e.isLt; omega⟩

theorem column_at (r : Fin 512) {a b : ℕ} (ha : a < 3328) (hb : b < 3328) (e : a = b) : column x g w r ⟨a, ha⟩ = column x g w r ⟨b, hb⟩ := by
  subst e; rfl

theorem top_apply (n : Fin 32) (r : Fin 256) (c : Fin 512) :
    k0_pay19 (place n.val) (k0_pay12 (k0_pay4 (View.ld x xs) (View.ld g gs) (View.ld w w4))) (ix2 r c)
      = keyRow (2 * (n.val % 16)) (keysOf x g w ⟨r.val, by have := r.isLt; omega⟩) c := by
  pointwise [k0_pay19, k0_pay17]
  rw [mark0 n c, select_if, keysSpread]
  simp only [last_apply]
  unfold keyRow keysOf
  split_ifs <;> first | rfl | (exfalso; omega) | (apply column_at; dsimp only; omega)

theorem bottom_apply (n : Fin 32) (r : Fin 256) (c : Fin 512) :
    k0_pay22 (place n.val) (k0_pay12 (k0_pay4 (View.ld x xs) (View.ld g gs) (View.ld w w4))) (iota .tc S256x512 32 [1] iota_S256x512_d1_w32) (ix2 r c)
      = keyRow (2 * (n.val % 16) + 1) (keysOf x g w ⟨256 + r.val, by have := r.isLt; omega⟩) c := by
  pointwise [k0_pay22, k0_pay20]
  rw [mark1 n c, select_if, keysSpread]
  simp only [last_apply]
  unfold keyRow keysOf
  split_ifs <;> first | rfl | (exfalso; omega) | (apply column_at; dsimp only; omega)

theorem values_apply (q : Fin 320) (r : Fin 512) :
    k0_pay58 (k0_pay16 (k0_pay4 (View.ld x xs) (View.ld g gs) (View.ld w w4))) (ix3 (0 : Fin 1) q r) = valueColumn (valuesOf x g w r) q := by
  have := q.isLt
  pointwise [k0_pay58]
  rw [markOne q, select_if, valuesSpread _ _ _ q.isLt]
  simp only [last_apply]
  unfold valueColumn valuesOf
  split_ifs <;> first | (exfalso; omega) | (rw [add_zero]; apply column_at; dsimp only; omega) | (rw [zero_add]) | (rw [add_zero])

/-- What a point leaves in the keys' block. -/
theorem keysBlock_apply (n : Fin 32) (r c : Fin 512) : keysBlock n.val x g w (ix2 r c) = keyRow (2 * (n.val % 16) + r.val / 256) (keysOf x g w r) c := by
  unfold keysBlock
  refine View.canon_apply_of_pieces (Val := Elt Ideal)
    (fun y : S512x512.Idx => keyRow (2 * (n.val % 16) + (y 0).val / 256) (keysOf x g w (y 0)) (y 1)) _ (fun p hp y => ?_) (ix2 r c) (keysCover _ _ _)
  simp only [List.mem_cons, List.not_mem_nil, or_false] at hp
  rcases hp with rfl | rfl
  · obtain ⟨r, d, rfl⟩ : ∃ (r : Fin 256) (d : Fin 512), y = ix2 r d := ⟨y 0, y 1, by funext a; match a with | 0 => rfl | 1 => rfl⟩
    have hr := r.isLt
    have e : bottom.emb (ix2 r d) = ix2 (⟨256 + r.val, by omega⟩ : Fin 512) d := by
      funext i
      apply Fin.ext
      fin_cases i <;> simp [ix2]
    rw [e]
    refine (bottom_apply x g w n r d).trans ?_
    show _ = keyRow (2 * (n.val % 16) + (256 + r.val) / 256) _ _
    rw [show (256 + r.val) / 256 = 1 by omega]; rfl
  · obtain ⟨r, d, rfl⟩ : ∃ (r : Fin 256) (d : Fin 512), y = ix2 r d := ⟨y 0, y 1, by funext a; match a with | 0 => rfl | 1 => rfl⟩
    have hr := r.isLt
    have e : top.emb (ix2 r d) = ix2 (⟨r.val, by omega⟩ : Fin 512) d := by
      funext i
      apply Fin.ext
      fin_cases i <;> simp [ix2]
    rw [e]
    refine (top_apply x g w n r d).trans ?_
    show _ = keyRow (2 * (n.val % 16) + r.val / 256) _ _
    rw [show r.val / 256 = 0 by omega]; rfl

/-- What a point leaves in the values' block. -/
theorem valuesBlock_apply (q : Fin 320) (r : Fin 512) : valuesBlock x g w (ix3 (0 : Fin 1) q r) = valueColumn (valuesOf x g w r) q := by
  unfold valuesBlock
  refine View.canon_apply_of_pieces (Val := Elt Ideal)
    (fun y : S1x320x512.Idx => valueColumn (valuesOf x g w (y 2)) (y 1)) _ (fun p hp y => ?_) (ix3 (0 : Fin 1) q r) (valuesCover _ _)
  simp only [List.mem_cons, List.not_mem_nil, or_false] at hp
  subst hp
  obtain ⟨q, r, rfl⟩ : ∃ (q : Fin 320) (r : Fin 512), y = ix3 (0 : Fin 1) q r :=
    ⟨y 1, y 2, by funext a; match a with | 0 => exact Fin.fin_one_eq_zero (y 0) | 1 => rfl | 2 => rfl⟩
  have e : vals.emb (ix3 (0 : Fin 1) q r) = ix3 (0 : Fin 1) q r := by
    funext i
    apply Fin.ext
    fin_cases i <;> simp [ix3]
  rw [e]
  exact values_apply x g w q r
end

section
variable (x : Vec Ideal S16384x1024 .f32) (g : Vec Ideal S1024 .f32) (w : Vec Ideal S2x1024x3328 .bf16)

/-- Row `n`, scaled by its root mean square and the weights, multiplied by column `d` of the second layer's matrix. -/
def product (n : Fin 16384) (d : Fin 3328) : EReal :=
  ∑ k : Fin 1024, Formula.scaled (fun k => x (ix2 n k)) (fun k => g (ix1 k)) k * w (ix3 (1 : Fin 2) k d)

/-- The keys' array at token `n`, and the values' array of sequence `b` at token `s`. -/
def keysEntry (n : Fin 16384) (c : Fin 512) : EReal :=
  keyRow (n.val % 8192 / 256) (fun e => product x g w n ⟨2560 + e.val, by have := e.isLt; omega⟩) c
def valuesEntry (b : Fin 2) (q : Fin 320) (s : Fin 8192) : EReal :=
  valueColumn (fun e => product x g w ⟨8192 * b.val + s.val, by have := b.isLt; have := s.isLt; omega⟩ ⟨3072 + e.val, by have := e.isLt; omega⟩) q
end

end Cert.Kernel3Ideal.InProj

end
-- ==== Proof.InProjArray.lean ====
/-
  The input projection's first result, its keys and its values over the extended reals: every entry is a row scaled by its root
  mean square and the weights, multiplied by a column of the second layer's matrix, or what stands between the heads.
-/
module

public import proofs.«01_k».proof.Proof.InProjRun
public import proofs.«01_k».proof.Proof.Formula
public import proofs.«01_k».proof.Proof.InProjSpread
public import Idealize.ShloMosaic.Lib.Pointwise
public import Idealize.ShloMosaic.Lib.Claim
public import Idealize.ShloMosaic.Lib.Pipeline.ValueKit

@[expose] public section

set_option maxRecDepth 16384

noncomputable section

namespace Cert.Kernel3Ideal.InProj

open Cert.Kernel3Ideal Cert.Kernel3Ideal.Gen
open Idealize.ShloMosaic Idealize.ShloMosaic.TcCoe

section
variable (x : Vec Ideal S512x1024 .f32) (g : Vec Ideal S1x1024 .f32) (w : Vec Ideal S1x1024x3328 .bf16)

/-- A block's entry at row `r` and column `d`. -/
def entry (r : Fin 512) (d : Fin 2176) : EReal :=
  ∑ k : Fin 1024, Formula.scaled (fun k => x (ix2 r k)) (fun k => g (ix2 (0 : Fin 1) k)) k * w (ix3 (0 : Fin 1) k ⟨d.val, by have := d.isLt; omega⟩)

theorem piece0_apply (r : Fin 512) (d : Fin 512) :
    k0_pay5 (View.ld x xs) (View.ld g gs) (View.ld w w0) (ix2 r d) = entry x g w r ⟨d.val, by have := d.isLt; omega⟩ := by
  pointwise [k0_pay5]
  simp only [scaledRow_apply]
  rfl

theorem piece1_apply (r : Fin 512) (d : Fin 512) :
    k0_pay6 (k0_pay3 (View.ld x xs) (View.ld g gs)) (View.ld w w1) (ix2 r d) = entry x g w r ⟨512 + d.val, by have := d.isLt; omega⟩ := by
  pointwise [k0_pay6]
  simp only [scaledRow_apply]
  rfl

theorem piece2_apply (r : Fin 512) (d : Fin 512) :
    k0_pay7 (k0_pay3 (View.ld x xs) (View.ld g gs)) (View.ld w w2) (ix2 r d) = entry x g w r ⟨1024 + d.val, by have := d.isLt; omega⟩ := by
  pointwise [k0_pay7]
  simp only [scaledRow_apply]
  rfl

theorem piece3_apply (r : Fin 512) (d : Fin 512) :
    k0_pay8 (k0_pay3 (View.ld x xs) (View.ld g gs)) (View.ld w w3) (ix2 r d) = entry x g w r ⟨1536 + d.val, by have := d.isLt; omega⟩ := by
  pointwise [k0_pay8]
  simp only [scaledRow_apply]
  rfl

theorem piece4_apply (r : Fin 512) (d : Fin 128) :
    k0_pay9 (k0_pay4 (View.ld x xs) (View.ld g gs) (View.ld w w4)) (ix2 r d) = entry x g w r ⟨2048 + d.val, by have := d.isLt; omega⟩ := by
  pointwise [k0_pay9, k0_pay4]
  simp only [scaledRow_apply]
  rfl

/-- A row and a column of an index. -/
theorem wide_idx (y : S512x512.Idx) : ∃ (r : Fin 512) (d : Fin 512), y = ix2 r d :=
  ⟨y 0, y 1, by funext a; match a with | 0 => rfl | 1 => rfl⟩
theorem narrow_idx (y : S512x128.Idx) : ∃ (r : Fin 512) (d : Fin 128), y = ix2 r d :=
  ⟨y 0, y 1, by funext a; match a with | 0 => rfl | 1 => rfl⟩

theorem emb0 (r : Fin 512) (d : Fin 512) : cols0.emb (ix2 r d) = ix2 r (⟨d.val, by have := d.isLt; omega⟩ : Fin 2176) := by
  funext i
  apply Fin.ext
  fin_cases i <;> simp [ix2]
theorem emb1 (r : Fin 512) (d : Fin 512) : cols1.emb (ix2 r d) = ix2 r (⟨512 + d.val, by have := d.isLt; omega⟩ : Fin 2176) := by
  funext i
  apply Fin.ext
  fin_cases i <;> simp [ix2]
theorem emb2 (r : Fin 512) (d : Fin 512) : cols2.emb (ix2 r d) = ix2 r (⟨1024 + d.val, by have := d.isLt; omega⟩ : Fin 2176) := by
  funext i
  apply Fin.ext
  fin_cases i <;> simp [ix2]
theorem emb3 (r : Fin 512) (d : Fin 512) : cols3.emb (ix2 r d) = ix2 r (⟨1536 + d.val, by have := d.isLt; omega⟩ : Fin 2176) := by
  funext i
  apply Fin.ext
  fin_cases i <;> simp [ix2]
theorem emb4 (r : Fin 512) (d : Fin 128) : cols4.emb (ix2 r d) = ix2 r (⟨2048 + d.val, by have := d.isLt; omega⟩ : Fin 2176) := by
  funext i
  apply Fin.ext
  fin_cases i <;> simp [ix2]

/-- What a point leaves in the first output's block. -/
theorem mainBlock_apply (r : Fin 512) (d : Fin 2176) : mainBlock x g w (ix2 r d) = entry x g w r d := by
  unfold mainBlock
  refine View.canon_apply_of_pieces (Val := Elt Ideal) (fun y => entry x g w (y 0) (y 1)) _ (fun p hp y => ?_) (ix2 r d) (mainCover _ _ _ _ _ _)
  simp only [List.mem_cons, List.not_mem_nil, or_false] at hp
  rcases hp with rfl | rfl | rfl | rfl | rfl
  · obtain ⟨r, d, rfl⟩ := narrow_idx y
    rw [emb4]; exact piece4_apply x g w r d
  · obtain ⟨r, d, rfl⟩ := wide_idx y
    rw [emb3]; exact piece3_apply x g w r d
  · obtain ⟨r, d, rfl⟩ := wide_idx y
    rw [emb2]; exact piece2_apply x g w r d
  · obtain ⟨r, d, rfl⟩ := wide_idx y
    rw [emb1]; exact piece1_apply x g w r d
  · obtain ⟨r, d, rfl⟩ := wide_idx y
    rw [emb0]; exact piece0_apply x g w r d
end

/-- Where the windows' blocks lie at point `t`. -/
theorem idx0 : ∀ t : Fin cfg0.N,
    (cfg0.win 0).index t = ![t.val, 0] ∧ (cfg0.win 1).index t = ![0, 0] ∧ (cfg0.win 2).index t = ![1, 0, 0] ∧ (cfg0.win 13).index t = ![t.val, 0] := by
  decide +kernel

theorem points0 (t : Fin cfg0.N) : t.val < 32 := t.isLt

variable (m : (ℓ : Loc nD τ sig) → Buf (Elt Ideal) ℓ) (c : Dev nD) (t : Fin cfg0.N)

/-- Row `r` of the block of point `t`. -/
def rowOf (r : Fin 512) : Fin 16384 :=
  ⟨512 * t.val + r.val, by have := points0 t; have := r.isLt; omega⟩

theorem rows_blk (r : Fin 512) (k : Fin 1024) : iblk m c 0 t (ix2 r k) = m ((c : Thread nD τ).loc main_arg0) (ix2 (rowOf t r) k) := by
  have := points0 t
  unfold rowOf
  blk_ext [iblk, V_main_arg0, idx0 t]

theorem matrix_blk (k : Fin 1024) (d : Fin 3328) :
    iblk m c 2 t (ix3 (0 : Fin 1) k d) = m ((c : Thread nD τ).loc main_arg2) (ix3 (1 : Fin 2) k d) := by
  have := points0 t
  blk_ext [iblk, V_main_arg2, idx0 t]

theorem weight_array (k : Fin 1024) : V m c main_v0 (ix2 (0 : Fin 1) k) = m ((c : Thread nD τ).loc main_arg1) (ix1 k) := by
  have e : V m c main_v0 = broadcastInDim S1x1024 ![1] bcast_S1024_S1x1024_1 (m ((c : Thread nD τ).loc main_arg1)) := rfl
  rw [e]
  pointwise

theorem weight_blk (k : Fin 1024) : iblk m c 1 t (ix2 (0 : Fin 1) k) = m ((c : Thread nD τ).loc main_arg1) (ix1 k) := by
  refine Eq.trans ?_ (weight_array m c k)
  unfold iblk
  blk_ext [idx0 t]

/-- The result of the arguments at row `n` and column `d`. -/
def projection (x : Vec Ideal S16384x1024 .f32) (g : Vec Ideal S1024 .f32) (w : Vec Ideal S2x1024x3328 .bf16) (n : Fin 16384) (d : Fin 2176) : EReal :=
  ∑ k : Fin 1024, Formula.scaled (fun k => x (ix2 n k)) (fun k => g (ix1 k)) k * w (ix3 (1 : Fin 2) k ⟨d.val, by have := d.isLt; omega⟩)

def argMain (n : Fin 16384) (d : Fin 2176) : EReal :=
  projection (m ((c : Thread nD τ).loc main_arg0)) (m ((c : Thread nD τ).loc main_arg1)) (m ((c : Thread nD τ).loc main_arg2)) n d

theorem entry_arg (r : Fin 512) (d : Fin 2176) :
    entry (iblk m c 0 t) (iblk m c 1 t) (iblk m c 2 t) r d = argMain m c (rowOf t r) d := by
  unfold entry
  simp only [rows_blk, weight_blk, matrix_blk]
  rfl

/-- The first output's array after the run. -/
theorem main_array : (dats m 0 c).arrAt 13 cfg0.N = fun i => argMain m c (i 0) (i 1) := by
  refine (dats m 0 c).arrAt_eq_of_covers 13 _ (by decide +kernel) fun t hf y => ?_
  blk_simp
  rw [after13]
  obtain ⟨r, d, rfl⟩ : ∃ (r : Fin 512) (d : Fin 2176), y = ix2 r d := ⟨y 0, y 1, by funext a; match a with | 0 => rfl | 1 => rfl⟩
  refine ((mainBlock_apply _ _ _ r d).trans (entry_arg m c t r d)).trans ?_
  have i := (idx0 t).2.2.2
  congr 1
  · apply Fin.ext
    simp only [rowOf]
    blk_simp
    have i0 : win0_13.index t 0 = t.val := congrFun i 0
    rw [i0]; omega
  · apply Fin.ext
    blk_simp
    have i1 : win0_13.index t 1 = 0 := congrFun i 1
    rw [i1]; omega

/-- Where the keys' and the values' blocks lie at point `t`, and the point's coordinate. -/
theorem idx1 : ∀ t : Fin cfg0.N, (cfg0.win 14).index t = ![t.val, 0] ∧ (cfg0.win 16).index t = ![t.val / 16, 0, t.val % 16]
    ∧ (grid0.coords t 0).val = t.val := by
  decide +kernel

def argKeys (n : Fin 16384) (d : Fin 512) : EReal :=
  keysEntry (m ((c : Thread nD τ).loc main_arg0)) (m ((c : Thread nD τ).loc main_arg1)) (m ((c : Thread nD τ).loc main_arg2)) n d
def argValues (b : Fin 2) (q : Fin 320) (s : Fin 8192) : EReal :=
  valuesEntry (m ((c : Thread nD τ).loc main_arg0)) (m ((c : Thread nD τ).loc main_arg1)) (m ((c : Thread nD τ).loc main_arg2)) b q s

theorem column_arg (r : Fin 512) (d : Fin 3328) :
    column (iblk m c 0 t) (iblk m c 1 t) (iblk m c 2 t) r d
      = product (m ((c : Thread nD τ).loc main_arg0)) (m ((c : Thread nD τ).loc main_arg1)) (m ((c : Thread nD τ).loc main_arg2)) (rowOf t r) d := by
  unfold column
  simp only [rows_blk, weight_blk, matrix_blk]
  rfl

theorem keys_arg (r d : Fin 512) :
    keysBlock (grid0.coords t 0).val (iblk m c 0 t) (iblk m c 1 t) (iblk m c 2 t) (ix2 r d) = argKeys m c (rowOf t r) d := by
  have ht := points0 t
  have hr := r.isLt
  rw [(idx1 t).2.2]
  refine (keysBlock_apply _ _ _ (⟨t.val, ht⟩ : Fin 32) r d).trans ?_
  unfold argKeys keysEntry keysOf
  simp only [column_arg]
  rw [show 2 * (t.val % 16) + r.val / 256 = (rowOf t r).val % 8192 / 256 by simp only [rowOf]; omega]

theorem values_arg (q : Fin 320) (r : Fin 512) :
    valuesBlock (iblk m c 0 t) (iblk m c 1 t) (iblk m c 2 t) (ix3 (0 : Fin 1) q r)
      = argValues m c ⟨t.val / 16, by have := points0 t; omega⟩ q ⟨512 * (t.val % 16) + r.val, by have := r.isLt; omega⟩ := by
  have ht := points0 t
  have hr := r.isLt
  refine (valuesBlock_apply _ _ _ q r).trans ?_
  unfold argValues valuesEntry valuesOf
  simp only [column_arg]
  rw [show rowOf t r = (⟨8192 * (t.val / 16) + (512 * (t.val % 16) + r.val), by omega⟩ : Fin 16384) from
    Fin.ext (by simp only [rowOf]; omega)]

/-- The keys' array after the run. -/
theorem keys_array : (dats m 0 c).arrAt 14 cfg0.N = fun i => argKeys m c (i 0) (i 1) := by
  refine (dats m 0 c).arrAt_eq_of_covers 14 _ (by decide +kernel) fun t hf y => ?_
  blk_simp
  rw [after14]
  obtain ⟨r, d, rfl⟩ : ∃ (r : Fin 512) (d : Fin 512), y = ix2 r d := ⟨y 0, y 1, by funext a; match a with | 0 => rfl | 1 => rfl⟩
  refine (keys_arg m c t r d).trans ?_
  have i := (idx1 t).1
  congr 1
  · apply Fin.ext
    simp only [rowOf]
    blk_simp
    have i0 : win0_14.index t 0 = t.val := congrFun i 0
    rw [i0]; omega
  · apply Fin.ext
    blk_simp
    have i1 : win0_14.index t 1 = 0 := congrFun i 1
    rw [i1]; omega

/-- The values' array after the run. -/
theorem values_array : (dats m 0 c).arrAt 16 cfg0.N = fun i => argValues m c (i 0) (i 1) (i 2) := by
  refine (dats m 0 c).arrAt_eq_of_covers 16 _ (by decide +kernel) fun t hf y => ?_
  blk_simp
  rw [after16]
  obtain ⟨q, r, rfl⟩ : ∃ (q : Fin 320) (r : Fin 512), y = ix3 (0 : Fin 1) q r :=
    ⟨y 1, y 2, by funext a; match a with | 0 => exact Fin.fin_one_eq_zero (y 0) | 1 => rfl | 2 => rfl⟩
  refine (values_arg m c t q r).trans ?_
  have i := (idx1 t).2.1
  congr 1
  · apply Fin.ext
    blk_simp
    have i0 : win0_16.index t 0 = t.val / 16 := congrFun i 0
    rw [i0]; rfl
  · apply Fin.ext
    blk_simp
    have i1 : win0_16.index t 1 = 0 := congrFun i 1
    rw [i1]; omega
  · apply Fin.ext
    blk_simp
    have i2 : win0_16.index t 2 = t.val % 16 := congrFun i 2
    rw [i2]; dsimp only; omega

end Cert.Kernel3Ideal.InProj

end
-- ==== Proof.InProjReference.lean ====
/-
  What the input projection's reference computes, read at one row and column: the first result, the keys, the values.
-/
module

public import proofs.«01_k».proof.Proof.Gen.Reference3Ideal
public import proofs.«01_k».proof.Proof.Gen.Reference3Ideal.Run
public import proofs.«01_k».proof.Proof.InProjArray

@[expose] public section

set_option maxRecDepth 16384

noncomputable section

namespace Cert.Reference3Ideal.Value

open Cert.Reference3Ideal Cert.Reference3Ideal.Gen
open Idealize.ShloMosaic Idealize.ShloMosaic.TcCoe

variable (x : Vec Ideal S16384x1024 .f32) (g : Vec Ideal S1024 .f32) (w : Vec Ideal S2x1024x3328 .bf16)

/-- The reference's scaled rows. -/
def rows : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The reference's matrix: the second layer's, its first 2176 columns. -/
def matrix : FVec Ideal S1024x2176 .f32 :=
  extf .f32 (shapeCast S1024x2176 (extractStridedSlice S1x1024x2176 ![1, 0, 0] w slices_S2x1024x3328_S1x1024x2176_1_0_0 : FVec Ideal S1x1024x2176 .bf16)
    shapeCasts_S1x1024x2176_S1024x2176 : FVec Ideal S1024x2176 .bf16) bitsLt_bf16_f32

/-- The reference's first result. -/
def result : FVec Ideal S16384x2176 .f32 :=
  Host.dotGeneral (F := Ideal) (φ₁ := .f32) (φ₂ := .f32) dot_S16384x1024_S1024x2176_S16384x2176_1_0_0_1_n_n none (rows x g) (matrix w)

theorem rows_apply (n : Fin 16384) (k : Fin 1024) :
    rows x g (ix2 n k) = Cert.Formula.scaled (fun k => x (ix2 n k)) (fun k => g (ix1 k)) k := by
  unfold rows
  pointwise
  rfl

theorem matrix_apply (k : Fin 1024) (d : Fin 2176) : matrix w (ix2 k d) = w (ix3 (1 : Fin 2) k ⟨d.val, by have := d.isLt; omega⟩) := by
  unfold matrix
  pointwise

theorem result_apply (n : Fin 16384) (d : Fin 2176) : result x g w (ix2 n d) = Cert.Kernel3Ideal.InProj.projection x g w n d := by
  unfold result
  pointwise
  simp only [rows_apply, matrix_apply]
  rfl

/-- The reference's rows multiplied by the keys' columns, and by the values' columns. -/
def keyProducts : FVec Ideal S16384x256 .f32 :=
  Host.dotGeneral (F := Ideal) (φ₁ := .f32) (φ₂ := .f32) dot_S16384x1024_S1024x256_S16384x256_1_0_0_1_n_n none (rows x g)
    (extf .f32 (shapeCast S1024x256 (extractStridedSlice S1x1024x256 ![1, 0, 2560] w slices_S2x1024x3328_S1x1024x256_1_0_2560 : FVec Ideal S1x1024x256 .bf16)
      shapeCasts_S1x1024x256_S1024x256 : FVec Ideal S1024x256 .bf16) bitsLt_bf16_f32)
def valueProducts : FVec Ideal S16384x256 .f32 :=
  Host.dotGeneral (F := Ideal) (φ₁ := .f32) (φ₂ := .f32) dot_S16384x1024_S1024x256_S16384x256_1_0_0_1_n_n none (rows x g)
    (extf .f32 (shapeCast S1024x256 (extractStridedSlice S1x1024x256 ![1, 0, 3072] w slices_S2x1024x3328_S1x1024x256_1_0_3072 : FVec Ideal S1x1024x256 .bf16)
      shapeCasts_S1x1024x256_S1024x256 : FVec Ideal S1024x256 .bf16) bitsLt_bf16_f32)

theorem keyProducts_apply (n : Fin 16384) (e : Fin 256) :
    keyProducts x g w (ix2 n e) = Cert.Kernel3Ideal.InProj.product x g w n ⟨2560 + e.val, by have := e.isLt; omega⟩ := by
  unfold keyProducts
  pointwise
  simp only [rows_apply]
  rfl
theorem valueProducts_apply (n : Fin 16384) (e : Fin 256) :
    valueProducts x g w (ix2 n e) = Cert.Kernel3Ideal.InProj.product x g w n ⟨3072 + e.val, by have := e.isLt; omega⟩ := by
  unfold valueProducts
  pointwise
  simp only [rows_apply]
  rfl

/-- The reference's marks: a one where the place is the token's block. -/
def marks : FVec Ideal S16384x4x64 .f32 :=
  shapeCast S16384x4x64 (uitofp .f32 (cmpi .eq (iotaInDim S2x32x256x4x64 32 1) (iotaInDim S2x32x256x4x64 32 4)) : FVec Ideal S2x32x256x4x64 .f32)
    shapeCasts_S2x32x256x4x64_S16384x4x64

/-- The reference's keys and values as they are returned, from the products. -/
def keysResult (v : FVec Ideal S16384x256 .f32) : FVec Ideal S16384x512 .bf16 :=
  truncf .bf16 (shapeCast S16384x512 (concatenate (α := Ideal .f32) S16384x4x128 2 [⟨S16384x4x64, shapeCast S16384x4x64 v shapeCasts_S16384x256_S16384x4x64⟩, ⟨S16384x4x64, marks⟩]
    concatenates_S16384x4x64_S16384x4x64_S16384x4x128_d2 : FVec Ideal S16384x4x128 .f32) shapeCasts_S16384x4x128_S16384x512 : FVec Ideal S16384x512 .f32) bitsLt_bf16_f32

/-- The reference's values with a one and zeros after each head's, joined, and returned. -/
def valuesStacked (v : FVec Ideal S16384x256 .f32) : FVec Ideal S2x8192x4x80 .f32 :=
  concatenate (α := Ideal .f32) S2x8192x4x80 3
    [⟨S2x8192x4x64, shapeCast S2x8192x4x64 v shapeCasts_S16384x256_S2x8192x4x64⟩,
      ⟨S2x8192x4x1, broadcastInDim S2x8192x4x1 ![] bcast_S_S2x8192x4x1 (constant (F := Ideal) S_ .f32 0x3F800000#32)⟩,
      ⟨S2x8192x4x15, broadcastInDim S2x8192x4x15 ![] bcast_S_S2x8192x4x15 (constant (F := Ideal) S_ .f32 0x00000000#32)⟩]
    concatenates_S2x8192x4x64_S2x8192x4x1_S2x8192x4x15_S2x8192x4x80_d3
def valuesJoined (u : FVec Ideal S2x8192x4x80 .f32) : FVec Ideal S2x8192x320 .f32 := shapeCast S2x8192x320 u shapeCasts_S2x8192x4x80_S2x8192x320
def valuesReturned (u : FVec Ideal S2x8192x320 .f32) : FVec Ideal S2x320x8192 .bf16 :=
  truncf .bf16 (transpose S2x320x8192 [0, 2, 1] u transposes_S2x8192x320_S2x320x8192_0_2_1 : FVec Ideal S2x320x8192 .f32) bitsLt_bf16_f32
def valuesResult (v : FVec Ideal S16384x256 .f32) : FVec Ideal S2x320x8192 .bf16 := valuesReturned (valuesJoined (valuesStacked v))

theorem sameBlock : ∀ (a : Fin 32) (j : Fin 64), IntOp.cmpi CmpIPredicate.eq (BitVec.ofNat 32 a.val) (BitVec.ofNat 32 j.val) = if j.val = a.val then 1#1 else 0#1 := by
  decide +kernel

theorem marks_apply (n : Fin 16384) (h : Fin 4) (j : Fin 64) : marks (ix3 n h j) = if j.val = n.val % 8192 / 256 then (1 : EReal) else 0 := by
  have hn := n.isLt
  unfold marks
  pointwise
  rw [show n.val / 256 % 32 = n.val % 8192 / 256 by omega]
  rw [sameBlock (⟨n.val % 8192 / 256, by omega⟩ : Fin 32) j]
  split_ifs
  · simp [FloatOps.uitofp]
  · simp [FloatOps.uitofp]

theorem keysJoin_apply (v : FVec Ideal S16384x256 .f32) (n : Fin 16384) (c : Fin 512) : keysResult v (ix2 n c)
    = if h : c.val % 128 < 64 then v (ix2 n (⟨c.val / 128 * 64 + c.val % 128, by have := c.isLt; omega⟩ : Fin 256))
      else marks (ix3 n (⟨c.val / 128, by have := c.isLt; omega⟩ : Fin 4) (⟨c.val % 128 - 64, by omega⟩ : Fin 64)) := by
  unfold keysResult
  pointwise

theorem keysResult_apply (n : Fin 16384) (c : Fin 512) : keysResult (keyProducts x g w) (ix2 n c) = Cert.Kernel3Ideal.InProj.keysEntry x g w n c := by
  have hc := c.isLt
  rw [keysJoin_apply]
  unfold Cert.Kernel3Ideal.InProj.keysEntry Cert.Kernel3Ideal.InProj.keyRow
  split_ifs with h1 h2
  · rw [keyProducts_apply]
    congr 1
    apply Fin.ext; dsimp only; omega
  · rw [marks_apply, if_pos (by dsimp only; omega)]
  · rw [marks_apply, if_neg (by dsimp only; omega)]

theorem heads_apply (v : FVec Ideal S16384x256 .f32) (b : Fin 2) (s : Fin 8192) (h : Fin 4) (j : Fin 64) :
    shapeCast S2x8192x4x64 v shapeCasts_S16384x256_S2x8192x4x64 (ix4 b s h j)
      = v (ix2 (⟨b.val * 8192 + s.val, by have := b.isLt; have := s.isLt; omega⟩ : Fin 16384)
        (⟨h.val * 64 + j.val, by have := h.isLt; have := j.isLt; omega⟩ : Fin 256)) := by
  pointwise

theorem valuesStack_apply (u : FVec Ideal S2x8192x4x64 .f32) (b : Fin 2) (s : Fin 8192) (h : Fin 4) (j : Fin 80) :
    concatenate (α := Ideal .f32) S2x8192x4x80 3
      [⟨S2x8192x4x64, u⟩,
        ⟨S2x8192x4x1, broadcastInDim S2x8192x4x1 ![] bcast_S_S2x8192x4x1 (constant (F := Ideal) S_ .f32 0x3F800000#32)⟩,
        ⟨S2x8192x4x15, broadcastInDim S2x8192x4x15 ![] bcast_S_S2x8192x4x15 (constant (F := Ideal) S_ .f32 0x00000000#32)⟩]
      concatenates_S2x8192x4x64_S2x8192x4x1_S2x8192x4x15_S2x8192x4x80_d3 (ix4 b s h j)
      = if q : j.val < 64 then u (ix4 b s h ⟨j.val, q⟩) else if j.val - 64 < 1 then (1 : EReal) else 0 := by
  pointwise
  split_ifs <;> rfl

theorem valuesJoined_apply (u : FVec Ideal S2x8192x4x80 .f32) (b : Fin 2) (s : Fin 8192) (q : Fin 320) :
    valuesJoined u (ix3 b s q) = u (ix4 b s (⟨q.val / 80, by have := q.isLt; omega⟩ : Fin 4) (⟨q.val % 80, by omega⟩ : Fin 80)) := by
  unfold valuesJoined
  pointwise

theorem valuesReturned_apply (u : FVec Ideal S2x8192x320 .f32) (b : Fin 2) (s : Fin 8192) (q : Fin 320) :
    valuesReturned u (ix3 b q s) = u (ix3 b s q) := by
  unfold valuesReturned
  pointwise

theorem valuesResult_apply (b : Fin 2) (q : Fin 320) (s : Fin 8192) :
    valuesResult (valueProducts x g w) (ix3 b q s) = Cert.Kernel3Ideal.InProj.valuesEntry x g w b q s := by
  have hq := q.isLt
  have hb := b.isLt
  have hs := s.isLt
  unfold valuesResult
  rw [valuesReturned_apply, valuesJoined_apply]
  unfold valuesStacked
  rw [valuesStack_apply]
  unfold Cert.Kernel3Ideal.InProj.valuesEntry Cert.Kernel3Ideal.InProj.valueColumn
  dsimp only
  split_ifs with h1 h2 h3
  · rw [heads_apply, valueProducts_apply]
    congr 1
    · apply Fin.ext; dsimp only; omega
    · apply Fin.ext; dsimp only; omega
  all_goals first | rfl | (exfalso; omega)

end Cert.Reference3Ideal.Value

end
-- ==== Proof.Count.lean ====
/-
  Counting: how many tokens before a token are of a group, where the groups begin when the tokens are laid out group by group, and the
  position a token then has.
-/
module

public import Idealize.ShloMosaic.Lib.Pointwise
public import Mathlib.Data.Nat.Count

@[expose] public section

set_option maxRecDepth 16384

noncomputable section

namespace Cert.Count

/-- The number of the tokens below `n` whose group is `l`. -/
def cnt (gr : ℕ → ℕ) (l n : ℕ) : ℕ := Nat.count (fun t => gr t = l) n
/-- The number of the first 1024 tokens whose group is below `l`: where group `l` begins. -/
def base (gr : ℕ → ℕ) (l : ℕ) : ℕ := ∑ k ∈ Finset.range l, cnt gr k 1024
/-- The position of token `t` when the tokens are laid out group by group, in order within a group. -/
def pos (gr : ℕ → ℕ) (t : ℕ) : ℕ := base gr (gr t) + cnt gr (gr t) t

variable (gr : ℕ → ℕ)

theorem cnt_succ_self (t : ℕ) : cnt gr (gr t) (t + 1) = cnt gr (gr t) t + 1 := by
  rw [cnt, Nat.count_succ, if_pos rfl, cnt]

theorem cnt_mono (l : ℕ) {a b : ℕ} (h : a ≤ b) : cnt gr l a ≤ cnt gr l b := Nat.count_monotone _ h

theorem base_succ (l : ℕ) : base gr (l + 1) = base gr l + cnt gr l 1024 := Finset.sum_range_succ _ _

theorem base_mono {a b : ℕ} (h : a ≤ b) : base gr a ≤ base gr b :=
  Finset.sum_le_sum_of_subset (Finset.range_mono h)

/-- The tokens of the four groups are all the tokens. -/
theorem sum_cnt (hg : ∀ t, gr t < 4) (n : ℕ) : ∑ l ∈ Finset.range 4, cnt gr l n = n := by
  induction n with
  | zero => simp [cnt]
  | succ n ih =>
    have e : ∀ l, cnt gr l (n + 1) = cnt gr l n + if gr n = l then 1 else 0 := fun l => by
      rw [cnt, Nat.count_succ]; rfl
    rw [Finset.sum_congr rfl fun l _ => e l, Finset.sum_add_distrib, ih, Finset.sum_ite_eq, if_pos (Finset.mem_range.mpr (hg n))]

theorem base_four (hg : ∀ t, gr t < 4) : base gr 4 = 1024 := sum_cnt gr hg 1024

/-- A token's position is before where the next group begins. -/
theorem pos_lt (t : ℕ) (ht : t < 1024) : pos gr t < base gr (gr t + 1) := by
  have := cnt_succ_self gr t
  have := cnt_mono gr (gr t) (show t + 1 ≤ 1024 from ht)
  rw [pos, base_succ]; omega

theorem base_le_pos (t : ℕ) : base gr (gr t) ≤ pos gr t := Nat.le_add_right _ _

/-- A token's position is among the 1024 positions. -/
theorem pos_lt_all (hg : ∀ t, gr t < 4) (t : ℕ) (ht : t < 1024) : pos gr t < 1024 := by
  have h1 := pos_lt gr t ht
  have h2 := base_mono gr (show gr t + 1 ≤ 4 from hg t)
  rw [base_four gr hg] at h2; omega

theorem base_le (hg : ∀ t, gr t < 4) (l : ℕ) (hl : l ≤ 4) : base gr l ≤ 1024 :=
  (base_mono gr hl).trans (base_four gr hg).le

/-- Different tokens have different positions. -/
theorem pos_inj (t u : ℕ) (ht : t < 1024) (hu : u < 1024) (h : pos gr t = pos gr u) : t = u := by
  have key : ∀ a b, a < 1024 → b < 1024 → pos gr a = pos gr b → ¬ a < b := by
    intro a b ha hb e hab
    rcases lt_trichotomy (gr a) (gr b) with hl | hl | hl
    · have := pos_lt gr a ha
      have := base_mono gr (show gr a + 1 ≤ gr b from hl)
      have := base_le_pos gr b; omega
    · have h1 := cnt_succ_self gr a
      have h2 := cnt_mono gr (gr a) (show a + 1 ≤ b from hab)
      simp only [pos, ← hl] at e; omega
    · have := pos_lt gr b hb
      have := base_mono gr (show gr b + 1 ≤ gr a from hl)
      have := base_le_pos gr a; omega
  rcases lt_trichotomy t u with h1 | h1 | h1
  · exact absurd h1 (key t u ht hu h)
  · exact h1
  · exact absurd h1 (key u t hu ht h.symm)

/-- One chunk of 128 tokens: the triangle's row `r` times the chunk's one-hot column, on top of the count before the chunk, is the count
    up to the chunk's token `r`. -/
theorem chunk (l b : ℕ) (r : Fin 128) :
    ∑ k : Fin 128, (if k.val ≤ r.val then (1 : EReal) else 0) * (if gr (b + k.val) = l then 1 else 0) + (cnt gr l b : EReal)
      = (cnt gr l (b + r.val + 1) : ℕ) := by
  have e : ∀ k : Fin 128, (if k.val ≤ r.val then (1 : EReal) else 0) * (if gr (b + k.val) = l then 1 else 0)
      = ((if k.val ≤ r.val ∧ gr (b + k.val) = l then 1 else 0 : ℕ) : EReal) := by
    intro k
    by_cases h1 : k.val ≤ r.val <;> by_cases h2 : gr (b + k.val) = l <;> simp [h1, h2]
  rw [Finset.sum_congr rfl fun k _ => e k, ← Nat.cast_sum, ← Nat.cast_add]
  congr 1
  have hs : ∑ k ∈ Finset.range (r.val + 1), (if gr (b + k) = l then 1 else 0)
      = ∑ k ∈ Finset.range 128, (if k ≤ r.val ∧ gr (b + k) = l then 1 else 0) := by
    refine (Finset.sum_congr rfl fun k hk => ?_).trans (Finset.sum_subset (Finset.range_mono (show r.val + 1 ≤ 128 from r.isLt)) ?_)
    · have h1 : k < r.val + 1 := Finset.mem_range.mp hk
      simp only [Nat.lt_succ_iff.mp h1, true_and]
    · intro k _ hk'
      have h1 : ¬ k < r.val + 1 := fun h => hk' (Finset.mem_range.mpr h)
      exact if_neg fun h => h1 (Nat.lt_succ_of_le h.1)
  rw [Fin.sum_univ_eq_sum_range (fun k => if k ≤ r.val ∧ gr (b + k) = l then 1 else 0) 128, ← hs, cnt, cnt,
    show b + r.val + 1 = b + (r.val + 1) from by omega, Nat.count_add,
    Nat.count_eq_card_filter_range (fun k => gr (b + k) = l) (r.val + 1), Finset.card_filter, add_comm]

end Cert.Count

end
-- ==== Proof.Counts.lean ====
/-
  The kernel's count tables at the extended reals: the one-hot rows, the running counts chunk by chunk, and the totals.
-/
module

public import proofs.«01_k».proof.Proof.Tables
public import proofs.«01_k».proof.Proof.Words
public import proofs.«01_k».proof.Proof.Count

@[expose] public section

set_option maxRecDepth 16384

noncomputable section

namespace Cert.KernelIdeal.Moe

open Cert.KernelIdeal Cert.KernelIdeal.Gen Cert.Words Cert.Count
open Idealize.ShloMosaic Idealize.ShloMosaic.TcCoe

variable (cb : Vec Ideal S1024x128 .f32) (tri : Vec Ideal S128x128 .bf16) (gr : ℕ → ℕ)

/-- The tile's combine rows hold, on lane 20, the token's group, one of four. -/
structure Grouped : Prop where
  lt : ∀ t, gr t < 4
  lane : ∀ t : Fin 1024, cb (ix2 t 20) = (gr t.val : EReal)

/-- The triangle: ones on and below the diagonal, zeros above. -/
def Triangle : Prop := ∀ a b : Fin 128, tri (ix2 a b) = if b.val ≤ a.val then (1 : EReal) else 0

variable {cb tri gr} (hG : Grouped cb gr) (hT : Triangle tri)
include hG

/-- The one-hot row of a token is one at its group and zero elsewhere. -/
theorem onehot_apply (t : Fin 1024) (l : Fin 128) : onehot cb (ix2 t l) = if gr t.val = l.val then (1 : EReal) else 0 := by
  have e : onehot cb (ix2 t l) = Scalar.select (IntOp.cmpi CmpIPredicate.eq (BitVec.ofNat 32 l.val)
      (Ideal.fptosi 32 (∑ x : Fin 128, Scalar.select (IntOp.cmpi CmpIPredicate.eq (BitVec.ofNat 32 x.val) (BitVec.ofNat 32 20)) (cb (ix2 t x)) 0)))
      1 0 := by
    unfold onehot
    unfold_payloads
    pointwise
    rfl
  have h1 := hG.lt t.val
  rw [e, lane_sum 20 (by norm_num) (by norm_num)]
  rw [show cb (ix2 t ⟨20, by norm_num⟩) = (gr t.val : EReal) from hG.lane t, fptosi_nat _ (by omega)]
  rw [select_eq _ _ (by have := l.isLt; omega) (by omega)]
  exact if_congr eq_comm rfl rfl

theorem onehot16_apply (t : Fin 1024) (l : Fin 128) : k0_pay7 lanesT cb (ix2 t l) = if gr t.val = l.val then (1 : EReal) else 0 := by
  rw [← onehot_apply hG t l]
  pointwise [k0_pay7]
  rfl

include hT

/-- A chunk's triangle product on top of the count before it is the count up to the chunk's row. -/
theorem chunk_next (b : ℕ) (hb : b + 128 ≤ 1024) (r l : Fin 128) {f : EReal} (hf : f = (cnt gr l.val b : ℕ)) :
    ∑ x : Fin 128, tri (ix2 r x) * k0_pay7 lanesT cb (ix2 ⟨b + x.val, by have := x.isLt; omega⟩ l) + f
      = (cnt gr l.val (b + r.val + 1) : ℕ) := by
  rw [hf, ← chunk gr l.val b r]
  congr 1
  refine Finset.sum_congr rfl fun x _ => ?_
  rw [hT r x, onehot16_apply hG]

theorem chunk0 (r l : Fin 128) : k0_pay8 lanesT cb tri (ix2 r l) = (cnt gr l.val (0 + r.val + 1) : ℕ) := by
  refine Eq.trans ?_ (chunk_next hG hT 0 (by norm_num) r l (f := 0) (by simp [cnt]))
  pointwise [k0_pay8]

theorem chunk1 (r l : Fin 128) : k0_pay9 lanesT cb tri tri (ix2 r l)
    = (cnt gr l.val (128 + r.val + 1) : ℕ) := by
  refine Eq.trans ?_ (chunk_next hG hT 128 (by norm_num) r l (chunk0 hG hT 127 l))
  pointwise [k0_pay9]

theorem chunk2 (r l : Fin 128) : k0_pay10 lanesT cb tri tri tri (ix2 r l)
    = (cnt gr l.val (256 + r.val + 1) : ℕ) := by
  refine Eq.trans ?_ (chunk_next hG hT 256 (by norm_num) r l (chunk1 hG hT 127 l))
  pointwise [k0_pay10]

theorem runTot4_apply (l : Fin 128) : runTot4 cb tri (ix2 0 l) = (cnt gr l.val 384 : ℕ) := by
  refine Eq.trans ?_ (chunk2 hG hT 127 l)
  unfold runTot4
  pointwise [k0_pay11]

theorem chunk3 (r l : Fin 128) : k0_pay13 (runTot4 cb tri) (k0_pay12 lanesT cb tri) (ix2 r l)
    = (cnt gr l.val (384 + r.val + 1) : ℕ) := by
  refine Eq.trans ?_ (chunk_next hG hT 384 (by norm_num) r l (runTot4_apply hG hT l))
  pointwise [k0_pay13, k0_pay12]

theorem chunk4 (r l : Fin 128) : k0_pay14 (k0_pay7 lanesT cb) (runTot4 cb tri) (k0_pay12 lanesT cb tri) tri (ix2 r l)
    = (cnt gr l.val (512 + r.val + 1) : ℕ) := by
  refine Eq.trans ?_ (chunk_next hG hT 512 (by norm_num) r l (chunk3 hG hT 127 l))
  pointwise [k0_pay14]

theorem chunk5 (r l : Fin 128) : k0_pay15 (k0_pay7 lanesT cb) (runTot4 cb tri) (k0_pay12 lanesT cb tri) tri tri (ix2 r l)
    = (cnt gr l.val (640 + r.val + 1) : ℕ) := by
  refine Eq.trans ?_ (chunk_next hG hT 640 (by norm_num) r l (chunk4 hG hT 127 l))
  pointwise [k0_pay15]

theorem chunk6 (r l : Fin 128) : k0_pay16 (k0_pay7 lanesT cb) (runTot4 cb tri) (k0_pay12 lanesT cb tri) tri tri tri (ix2 r l)
    = (cnt gr l.val (768 + r.val + 1) : ℕ) := by
  refine Eq.trans ?_ (chunk_next hG hT 768 (by norm_num) r l (chunk5 hG hT 127 l))
  pointwise [k0_pay16]

theorem chunk7 (r l : Fin 128) : k0_pay17 (k0_pay7 lanesT cb) (runTot4 cb tri) (k0_pay12 lanesT cb tri) tri tri tri tri (ix2 r l)
    = (cnt gr l.val (896 + r.val + 1) : ℕ) := by
  refine Eq.trans ?_ (chunk_next hG hT 896 (by norm_num) r l (chunk6 hG hT 127 l))
  pointwise [k0_pay17]

/-- The number of the tile's tokens in each group. -/
theorem total_apply (l : Fin 128) : total cb tri (ix2 0 l) = (cnt gr l.val 1024 : ℕ) := by
  refine Eq.trans ?_ (chunk7 hG hT 127 l)
  unfold total
  pointwise [k0_pay18]

/-- For every token and group, the number of the tokens up to that one which are of the group. -/
theorem prefixes_apply (t : Fin 1024) (l : Fin 128) : prefixes cb tri (ix2 t l) = (cnt gr l.val (t.val + 1) : ℕ) := by
  unfold prefixes
  pointwise [k0_pay19]
  by_cases h0 : t.val < 128
  · rw [dif_pos h0, chunk0 hG hT]
    exact congrArg (fun n : ℕ => ((cnt gr l.val n : ℕ) : EReal)) (by dsimp only; omega)
  rw [dif_neg h0]
  by_cases h1 : t.val - 128 < 128
  · rw [dif_pos h1, chunk1 hG hT]
    exact congrArg (fun n : ℕ => ((cnt gr l.val n : ℕ) : EReal)) (by dsimp only; omega)
  rw [dif_neg h1]
  by_cases h2 : t.val - 128 - 128 < 128
  · rw [dif_pos h2, chunk2 hG hT]
    exact congrArg (fun n : ℕ => ((cnt gr l.val n : ℕ) : EReal)) (by dsimp only; omega)
  rw [dif_neg h2]
  by_cases h3 : t.val - 128 - 128 - 128 < 128
  · rw [dif_pos h3, chunk3 hG hT]
    exact congrArg (fun n : ℕ => ((cnt gr l.val n : ℕ) : EReal)) (by dsimp only; omega)
  rw [dif_neg h3]
  by_cases h4 : t.val - 128 - 128 - 128 - 128 < 128
  · rw [dif_pos h4, chunk4 hG hT]
    exact congrArg (fun n : ℕ => ((cnt gr l.val n : ℕ) : EReal)) (by dsimp only; omega)
  rw [dif_neg h4]
  by_cases h5 : t.val - 128 - 128 - 128 - 128 - 128 < 128
  · rw [dif_pos h5, chunk5 hG hT]
    exact congrArg (fun n : ℕ => ((cnt gr l.val n : ℕ) : EReal)) (by dsimp only; omega)
  rw [dif_neg h5]
  by_cases h6 : t.val - 128 - 128 - 128 - 128 - 128 - 128 < 128
  · rw [dif_pos h6, chunk6 hG hT]
    exact congrArg (fun n : ℕ => ((cnt gr l.val n : ℕ) : EReal)) (by dsimp only; omega)
  rw [dif_neg h6]
  rw [chunk7 hG hT]
  exact congrArg (fun n : ℕ => ((cnt gr l.val n : ℕ) : EReal)) (by dsimp only; omega)

end Cert.KernelIdeal.Moe

end
-- ==== Proof.Positions.lean ====
/-
  The kernel's positions at the extended reals: where each group begins, the position of each token, the two permutation matrices, the
  rows and combine weights in position order, and the groups' words.
-/
module

public import proofs.«01_k».proof.Proof.Counts

@[expose] public section

set_option maxRecDepth 16384

noncomputable section

namespace Cert.KernelIdeal.Moe

open Cert.KernelIdeal Cert.KernelIdeal.Gen Cert.Words Cert.Count
open Idealize.ShloMosaic Idealize.ShloMosaic.TcCoe

variable {cb : Vec Ideal S1024x128 .f32} {tri : Vec Ideal S128x128 .bf16} {gr : ℕ → ℕ} (h : Vec Ideal S1024x1024 .bf16)
    (hG : Grouped cb gr) (hT : Triangle tri)
include hG hT

/-- Where group `g` begins, as the kernel adds it up from the sizes of the groups before. -/
theorem colBase (g : ℕ) (hg : g < 4) :
    bases cb tri (ix2 0 ⟨g, by omega⟩)
      + Scalar.select (k0_pay33 (k0_pay20 lanesT) (ix2 (0 : Fin 1) (⟨g, by omega⟩ : Fin 128))) (k0_pay34 (F := Ideal) (total cb tri) k0_pay21 (ix2 0 0)) 0
      = (base gr g : ℕ) := by
  have t0 := total_apply hG hT 0
  have t1 := total_apply hG hT 1
  have t2 := total_apply hG hT 2
  unfold bases
  unfold_payloads
  pointwise
  rw [t0, t1, t2]
  have hb : ∀ n < 4, ((base gr n : ℕ) : EReal) = ∑ k ∈ Finset.range n, ((cnt gr k 1024 : ℕ) : EReal) := fun n _ => by
    rw [base, Nat.cast_sum]
  rw [hb g hg]
  interval_cases g <;> simp [Finset.sum_range_succ, Scalar.select, IntOp.cmpi]

/-- The position of a token, as the kernel computes it: the token's one-hot row against where the groups begin plus the running counts. -/
theorem posWord (t : Fin 1024) :
    k0_pay37 (onehot cb) (prefixes cb tri) (bases cb tri) (k0_pay33 (k0_pay20 lanesT)) (Scalar.ofBits .f32 0x00000000#32)
      (k0_pay34 (total cb tri) k0_pay21) (ix2 t 0) = BitVec.ofNat 32 (pos gr t.val) := by
  have hp := pos_lt_all gr hG.lt t.val t.isLt
  rw [← fptosi_nat (pos gr t.val) (by omega)]
  have e := pick_sum (⟨gr t.val, by have := hG.lt t.val; omega⟩ : Fin 128) (fun x => onehot cb (ix2 t x))
    (fun x => bases cb tri (ix2 0 x)
      + Scalar.select (k0_pay33 (k0_pay20 lanesT) (ix2 (0 : Fin 1) x)) (k0_pay34 (F := Ideal) (total cb tri) k0_pay21 (ix2 0 0)) 0 + prefixes cb tri (ix2 t x) - 1)
    (by show onehot cb _ = _; rw [onehot_apply hG, if_pos rfl])
    (fun l hl => by show onehot cb _ = _; rw [onehot_apply hG, if_neg]; exact fun c => hl (Fin.ext c.symm))
  rw [colBase hG hT _ (hG.lt t.val), prefixes_apply hG hT] at e
  have e2 : ((base gr (gr t.val) : ℕ) : EReal) + (cnt gr (gr t.val) (t.val + 1) : ℕ) - 1 = (pos gr t.val : ℕ) := by
    rw [cnt_succ_self, pos, ← EReal.coe_natCast, ← EReal.coe_natCast, ← EReal.coe_natCast, ← EReal.coe_add, ← EReal.coe_one, ← EReal.coe_sub]
    congr 1
    push_cast; ring
  rw [← e2, ← e]
  pointwise [k0_pay37]
  rfl

/-- The permutation, token by position, is one at the token's position and zero elsewhere. -/
theorem permT_apply (t p : Fin 1024) : permT cb tri (ix2 t p) = if p.val = pos gr t.val then (1 : EReal) else 0 := by
  have hp := pos_lt_all gr hG.lt t.val t.isLt
  rw [← select_eq p.val (pos gr t.val) (by have := p.isLt; omega) (by omega), ← posWord hG hT t]
  unfold permT
  pointwise [k0_pay38]

/-- The permutation, position by token. -/
theorem permP_apply (t p : Fin 1024) : permP cb tri (ix2 p t) = if p.val = pos gr t.val then (1 : EReal) else 0 := by
  have hp := pos_lt_all gr hG.lt t.val t.isLt
  rw [← select_eq p.val (pos gr t.val) (by have := p.isLt; omega) (by omega), ← fptosi_nat (pos gr t.val) (by omega), ← sitofp_nat (pos gr t.val) (by omega),
    ← posWord hG hT t]
  unfold permP
  pointwise [k0_pay39]
  rfl

/-- The row at a token's position, in position order, is the token's row. -/
theorem gathered_apply (t : Fin 1024) (hp : pos gr t.val < 1024) (d : Fin 1024) : gathered cb tri h (ix2 ⟨pos gr t.val, hp⟩ d) = h (ix2 t d) := by
  have e := pick_sum t (fun x => permP cb tri (ix2 ⟨pos gr t.val, hp⟩ x)) (fun x => h (ix2 x d))
    (by show permP cb tri _ = _; rw [permP_apply hG hT, if_pos rfl])
    (fun l hl => by
      show permP cb tri _ = _
      rw [permP_apply hG hT, if_neg]
      exact fun c => hl (Fin.ext (pos_inj gr _ _ t.isLt l.isLt c).symm))
  rw [← e]
  unfold gathered permP
  pointwise [k0_pay137, k0_pay40]

/-- The combine weight at a token's position, in position order, is the token's, where that is finite. -/
theorem gatheredW_apply (t : Fin 1024) (hp : pos gr t.val < 1024) (l : Fin 128) (r : ℝ) (hr : cb (ix2 t l) = (r : EReal)) :
    gatheredW cb tri (ix2 ⟨pos gr t.val, hp⟩ l) = cb (ix2 t l) := by
  have e := fun f : Fin 1024 → EReal => pick_sum t (fun x => permP cb tri (ix2 ⟨pos gr t.val, hp⟩ x)) f
    (by show permP cb tri _ = _; rw [permP_apply hG hT, if_pos rfl])
    (fun l hl => by
      show permP cb tri _ = _
      rw [permP_apply hG hT, if_neg]
      exact fun c => hl (Fin.ext (pos_inj gr _ _ t.isLt l.isLt c).symm))
  have e1 := e (fun x => cb (ix2 x l))
  have e2 := e (fun x => cb (ix2 x l) - cb (ix2 x l))
  have e3 : gatheredW cb tri (ix2 ⟨pos gr t.val, hp⟩ l) = ∑ x : Fin 1024, permP cb tri (ix2 ⟨pos gr t.val, hp⟩ x) * cb (ix2 x l)
      + ∑ x : Fin 1024, permP cb tri (ix2 ⟨pos gr t.val, hp⟩ x) * (cb (ix2 x l) - cb (ix2 x l)) := by
    unfold gatheredW
    pointwise [k0_pay138]
  rw [e3]
  refine (congrArg₂ (· + ·) e1 e2).trans ?_
  show cb (ix2 t l) + (cb (ix2 t l) - cb (ix2 t l)) = _
  rw [hr, ← EReal.coe_sub, sub_self, EReal.coe_zero, add_zero]

/-- Words 0 to 3: where each group begins. -/
theorem segStart (g : ℕ) (hg : g < 4) : segWords cb tri (ix1 ⟨g, by omega⟩) = BitVec.ofNat 32 (base gr g) := by
  have t0 := total_apply hG hT 0
  have t1 := total_apply hG hT 1
  have t2 := total_apply hG hT 2
  have hb := base_le gr hG.lt g (by omega)
  rw [← fptosi_nat (base gr g) (by omega)]
  have e : ((base gr g : ℕ) : EReal) = ∑ k ∈ Finset.range g, ((cnt gr k 1024 : ℕ) : EReal) := by rw [base, Nat.cast_sum]
  rw [e]
  interval_cases g
  · show Scalar.fptosi 32 (k0_pay23 (F := Ideal)) = _
    unfold_payloads
    pointwise
    simp [Finset.sum_range_succ, t0, t1, t2]
  · show Scalar.fptosi 32 (k0_pay26 (total cb tri) k0_pay21) = _
    unfold_payloads
    pointwise
    simp [Finset.sum_range_succ, t0, t1, t2]
  · show Scalar.fptosi 32 (k0_pay30 (total cb tri) k0_pay21) = _
    unfold_payloads
    pointwise
    simp [Finset.sum_range_succ, t0, t1, t2]
  · show Scalar.fptosi 32 (k0_pay35 (k0_pay32 (total cb tri) k0_pay21)) = _
    unfold_payloads
    pointwise
    simp [Finset.sum_range_succ, t0, t1, t2]

/-- Words 4 to 7: the number of tokens in each group. -/
theorem segSize (g : ℕ) (hg : g < 4) : segWords cb tri (ix1 ⟨4 + g, by omega⟩) = BitVec.ofNat 32 (cnt gr g 1024) := by
  have hb := base_le gr hG.lt (g + 1) (by omega)
  rw [base_succ] at hb
  rw [← fptosi_nat (cnt gr g 1024) (by omega)]
  have e := total_apply hG hT ⟨g, by omega⟩
  rw [← e]
  interval_cases g
  · show Scalar.fptosi 32 (k0_pay24 (total cb tri)) = _
    unfold_payloads
    pointwise
  · show Scalar.fptosi 32 (k0_pay27 (total cb tri)) = _
    unfold_payloads
    pointwise
  · show Scalar.fptosi 32 (k0_pay31 (total cb tri)) = _
    unfold_payloads
    pointwise
  · show Scalar.fptosi 32 (k0_pay36 (total cb tri)) = _
    unfold_payloads
    pointwise

end Cert.KernelIdeal.Moe

end
-- ==== Proof.Tile.lean ====
/-
  A tile at the extended reals: each group adds, at a token's position, the token's terms for the group; the tile's end puts them back in
  token order, adds the residual and scales.
-/
module

public import proofs.«01_k».proof.Proof.Positions
public import proofs.«01_k».proof.Proof.Step

@[expose] public section

set_option maxRecDepth 16384

noncomputable section

namespace Cert.KernelIdeal.Moe

open Cert.KernelIdeal Cert.KernelIdeal.Gen Cert.Words Cert.Count
open Idealize.ShloMosaic Idealize.ShloMosaic.TcCoe

/-- A tile's combine rows are routed by group: lane 20 holds the token's group, the sixteen weights are finite, and those of the experts
    of the other groups are zero. -/
structure Routed (cb : Vec Ideal S1024x128 .f32) (gr : ℕ → ℕ) : Prop extends Grouped cb gr where
  finite : ∀ (t : Fin 1024) (e : Fin 128), e.val < 16 → ∃ r : ℝ, cb (ix2 t e) = (r : EReal)
  zero : ∀ (t : Fin 1024) (e : Fin 128), e.val < 16 → e.val / 4 ≠ gr t.val → cb (ix2 t e) = 0

/-- Two small words compare as their numbers: a block between `lo` and `hi` runs when the group's positions `[s, e)` meet it. -/
theorem runs_eq (s e lo hi : ℕ) (hs : s < 2 ^ 31) (he : e < 2 ^ 31) (hlo : lo < 2 ^ 31) (hhi : hi < 2 ^ 31) (h1 : s < hi) (h2 : lo < e) :
    runs (BitVec.ofNat 32 s) (BitVec.ofNat 32 e) (BitVec.ofNat 32 lo) (BitVec.ofNat 32 hi) = 1#1 := by
  have i : ∀ n < 2 ^ 31, (BitVec.ofNat 32 n).toInt = (n : ℤ) := fun n hn => by
    rw [BitVec.toInt_eq_toNat_cond, BitVec.toNat_ofNat, Nat.mod_eq_of_lt (by omega), if_pos (by omega)]
  have a : (BitVec.ofNat 32 s).slt (BitVec.ofNat 32 hi) = true := by
    rw [BitVec.slt, i s hs, i hi hhi]; exact decide_eq_true (by omega)
  have b : (BitVec.ofNat 32 lo).slt (BitVec.ofNat 32 e) = true := by
    rw [BitVec.slt, i lo hlo, i e he]; exact decide_eq_true (by omega)
  simp [runs, meets, Scalar.cmpi, IntOp.cmpi, a, b, Scalar.andi, Scalar.extui]
  rfl

/-- A row number of the eight words, as the kernel's index. -/
theorem wordIndex (n : ℕ) (hn : n < 4) : (Scalar.indexCast (BitVec.ofNat 32 n) : Index).toNat = n := by
  interval_cases n <;> rfl
theorem wordIndex' (n : ℕ) (hn : n < 4) : (Scalar.indexCast (Scalar.addi 4#32 (BitVec.ofNat 32 n)) : Index).toNat = 4 + n := by
  interval_cases n <;> rfl
theorem oneCell (q : S1.Idx) : (q 0).val = 0 := Nat.lt_one_iff.mp (q 0).isLt

theorem startWord_eq (i : grid0.Coords) (seg : Vec Ideal S8 .i32) :
    startWord i seg = seg (ix1 ⟨(i 1).val, by have : (i 1).val < 4 := (i 1).isLt; omega⟩) := by
  have h : (i 1).val < 4 := (i 1).isLt
  refine congrArg seg (funext fun q => Fin.ext ?_)
  fin_cases q
  show (Scalar.indexCast (BitVec.ofNat 32 (i 1).val) : Index).toNat + 1 * (_ : Fin (S1.size 0)).val = (i 1).val
  refine (congrArg (fun n => _ + 1 * n) (oneCell _)).trans ?_
  rw [wordIndex _ h, Nat.mul_zero, Nat.add_zero]

theorem sizeWord_eq (i : grid0.Coords) (seg : Vec Ideal S8 .i32) :
    sizeWord i seg = seg (ix1 ⟨4 + (i 1).val, by have : (i 1).val < 4 := (i 1).isLt; omega⟩) := by
  have h : (i 1).val < 4 := (i 1).isLt
  refine congrArg seg (funext fun q => Fin.ext ?_)
  fin_cases q
  show (Scalar.indexCast (Scalar.addi 4#32 (BitVec.ofNat 32 (i 1).val)) : Index).toNat + 1 * (_ : Fin (S1.size 0)).val = 4 + (i 1).val
  refine (congrArg (fun n => _ + 1 * n) (oneCell _)).trans ?_
  rw [wordIndex' _ h, Nat.mul_zero, Nat.add_zero]

section
variable {cb : Vec Ideal S1024x128 .f32} {tri : Vec Ideal S128x128 .bf16} {gr : ℕ → ℕ} (h : Vec Ideal S1024x1024 .bf16)
    (hR : Routed cb gr) (hT : Triangle tri) (wg wu : Vec Ideal S4x1024x256 .bf16) (wd : Vec Ideal S4x256x1024 .bf16)
include hR hT

/-- A group's terms at a token's position, from the rows and weights in position order, are the token's terms. -/
theorem groupTerm_gathered (g : ℕ) (hg : g < 4) (t : Fin 1024) (hp : pos gr t.val < 1024) (d : Fin 1024) :
    groupTerm g hg wg wu wd (gathered cb tri h) (gatheredW cb tri) ⟨pos gr t.val, hp⟩ d = groupTerm g hg wg wu wd h cb t d := by
  refine Finset.sum_congr rfl fun j _ => ?_
  have hj := j.isLt
  obtain ⟨r, hr⟩ := hR.finite t ⟨4 * g + j.val, by omega⟩ (by show 4 * g + j.val < 16; omega)
  rw [gatheredW_apply hR.toGrouped hT t hp _ r hr, funext fun k => gathered_apply h hR.toGrouped hT t hp k]

/-- A token of another group has no terms. -/
theorem groupTerm_other (g : ℕ) (hg : g < 4) (t d : Fin 1024) (hne : gr t.val ≠ g) : groupTerm g hg wg wu wd h cb t d = 0 :=
  groupTerm_zero g hg wg wu wd h cb t d fun j => by
    have hj := j.isLt
    refine hR.zero t _ (by show 4 * g + j.val < 16; omega) ?_
    show (4 * g + j.val) / 4 ≠ gr t.val
    omega

/-- After group `i 1` the accumulator at a token's position has grown by the token's terms for the group. -/
theorem groupAfter_apply (i : grid0.Coords) (y : Vec Ideal S1024x1024 .f32) (t : Fin 1024) (hp : pos gr t.val < 1024) (d : Fin 1024) :
    groupAfter i wg wu wd (gathered cb tri h) (gatheredW cb tri) (segWords cb tri) y (ix2 ⟨pos gr t.val, hp⟩ d)
      = y (ix2 ⟨pos gr t.val, hp⟩ d) + groupTerm (i 1).val (i 1).isLt wg wu wd h cb t d := by
  have hi : (i 1).val < 4 := (i 1).isLt
  rw [← groupTerm_gathered h hR hT wg wu wd (i 1).val hi t hp d]
  unfold groupAfter
  rw [startWord_eq, sizeWord_eq, segStart hR.toGrouped hT _ hi, segSize hR.toGrouped hT _ hi]
  refine blocks_apply (i 1).val hi wg wu wd _ _ _ _ y _ d ?_
  intro n hn hlo hup
  dsimp only at hlo hup
  by_cases hg : gr t.val = (i 1).val
  · left
    have b1 := base_le gr hR.lt ((i 1).val + 1) hi
    have b2 := base_le_pos gr t.val
    have b3 := pos_lt gr t.val t.isLt
    rw [hg] at b2 b3
    rw [base_succ] at b1 b3
    rw [show Scalar.addi (BitVec.ofNat 32 (base gr (i 1).val)) (BitVec.ofNat 32 (cnt gr (i 1).val 1024))
      = BitVec.ofNat 32 (base gr (i 1).val + cnt gr (i 1).val 1024) from (BitVec.ofNat_add _ _).symm]
    exact runs_eq _ _ _ _ (by omega) (by omega) (by omega) (by omega) (by omega) (by omega)
  · right
    rw [groupTerm_gathered h hR hT wg wu wd (i 1).val hi t hp d, groupTerm_other h hR hT wg wu wd _ hi t d hg]

/-- The tile's end: a token's row is its residual row plus the accumulator's row at its position, scaled by the reciprocal root of the
    mean square and by the weights. -/
theorem finish_apply (xn y : Vec Ideal S1024x1024 .f32) (w : Vec Ideal S1x1024 .f32) (s : Fin 1024 → EReal) (t : Fin 1024) (hp : pos gr t.val < 1024)
    (hs : ∀ d : Fin 1024, y (ix2 ⟨pos gr t.val, hp⟩ d) = s d) (d : Fin 1024) :
    k0_pay5 xn (permT cb tri) y w (ix2 t d)
      = (xn (ix2 t d) + s d)
        * Ideal.rsqrt (Ideal.div (∑ k : Fin 1024, (xn (ix2 t k) + s k) * (xn (ix2 t k) + s k)) (Ideal.ofBits .f32 0x44800000#32)
          + Ideal.ofBits .f32 0x358637BD#32) * w (ix2 0 d) := by
  have e : ∀ k : Fin 1024, ∑ x : Fin 1024, permT cb tri (ix2 t x) * y (ix2 x k) = s k := fun k => by
    rw [← hs k]
    refine pick_sum ⟨pos gr t.val, hp⟩ (fun x => permT cb tri (ix2 t x)) (fun x => y (ix2 x k)) ?_ fun l hl => ?_
    · show permT cb tri _ = _
      rw [permT_apply hR.toGrouped hT, if_pos rfl]
    · show permT cb tri _ = _
      rw [permT_apply hR.toGrouped hT, if_neg fun c => hl (Fin.ext c)]
  simp only [← e]
  pointwise [k0_pay5]

end
end Cert.KernelIdeal.Moe

end
-- ==== Proof.Arrays.lean ====
/-
  The kernel's blocks as parts of the argument arrays: tile `t / 4` of the rows, group `t % 4` of the experts' matrices, the triangle and
  the final weights whole.
-/
module

public import proofs.«01_k».proof.Proof.Gen.KernelIdeal.Frame
public import proofs.«01_k».proof.Proof.Words
public import Idealize.ShloMosaic.Lib.Claim
public import Idealize.ShloMosaic.Lib.Pipeline.ValueKit

@[expose] public section

set_option maxRecDepth 16384

noncomputable section

namespace Cert.KernelIdeal.Moe

open Cert.KernelIdeal Cert.KernelIdeal.Gen
open Idealize.ShloMosaic Idealize.ShloMosaic.TcCoe

/-- Where each window's block lies at point `t`. -/
theorem idx0 : ∀ t : Fin cfg0.N,
    (cfg0.win 0).index t = ![t.val / 4, 0] ∧ (cfg0.win 1).index t = ![t.val / 4, 0] ∧ (cfg0.win 2).index t = ![t.val / 4, 0]
    ∧ (cfg0.win 3).index t = ![0, 0] ∧ (cfg0.win 4).index t = ![t.val % 4, 0, 0] ∧ (cfg0.win 5).index t = ![t.val % 4, 0, 0]
    ∧ (cfg0.win 6).index t = ![t.val % 4, 0, 0] ∧ (cfg0.win 7).index t = ![0, 0] ∧ (cfg0.win 8).index t = ![t.val / 4, 0] := by
  decide +kernel

theorem points0 (t : Fin cfg0.N) : t.val < 64 := t.isLt

variable (m : (ℓ : Loc nD τ sig) → Buf (Elt Ideal) ℓ) (c : Dev nD) (t : Fin cfg0.N)

theorem rows_blk (r k : Fin 1024) :
    iblk m c 0 t (ix2 r k) = m ((c : Thread nD τ).loc main_arg0) (ix2 ⟨1024 * (t.val / 4) + r.val, by have := points0 t; have := r.isLt; omega⟩ k) := by
  have := points0 t
  blk_ext [iblk, V_main_arg0, idx0 t]

theorem comb_blk (r : Fin 1024) (k : Fin 128) :
    iblk m c 1 t (ix2 r k) = m ((c : Thread nD τ).loc main_arg1) (ix2 ⟨1024 * (t.val / 4) + r.val, by have := points0 t; have := r.isLt; omega⟩ k) := by
  have := points0 t
  blk_ext [iblk, V_main_arg1, idx0 t]

theorem resid_blk (r k : Fin 1024) :
    iblk m c 2 t (ix2 r k) = m ((c : Thread nD τ).loc main_arg2) (ix2 ⟨1024 * (t.val / 4) + r.val, by have := points0 t; have := r.isLt; omega⟩ k) := by
  have := points0 t
  blk_ext [iblk, V_main_arg2, idx0 t]

/-- The triangle the host builds: ones where the row number is at least the column number. -/
theorem tri_array (a b : Fin 128) : V m c main_v2 (ix2 a b) = if b.val ≤ a.val then (1 : EReal) else 0 := by
  have e : V m c main_v2 = truncf .bf16 (select (cmpi .sge (addi (iotaInDim S128x128 32 0) (broadcastInDim S128x128 ![] bcast_S_S128x128 (constantI S_ 32 0#32)))
      (iotaInDim S128x128 32 1)) (broadcastInDim S128x128 ![] bcast_S_S128x128 (constant (F := Ideal) S_ .f32 0x3F800000#32))
      (broadcastInDim S128x128 ![] bcast_S_S128x128 (constant (F := Ideal) S_ .f32 0x00000000#32))) bitsLt_bf16_f32 := rfl
  rw [e]
  pointwise
  rw [show IntOp.addi (BitVec.ofNat 32 a.val) 0#32 = BitVec.ofNat 32 a.val from BitVec.add_zero _]
  exact Words.select_sge a.val b.val (by have := a.isLt; omega) (by have := b.isLt; omega) _ _

theorem tri_blk (a b : Fin 128) : iblk m c 3 t (ix2 a b) = if b.val ≤ a.val then (1 : EReal) else 0 := by
  refine Eq.trans ?_ (tri_array m c a b)
  unfold iblk
  blk_ext [idx0 t]

theorem gate_blk (j : Fin 4) (k : Fin 1024) (f : Fin 256) :
    iblk m c 4 t (ix3 j k f) = m ((c : Thread nD τ).loc main_arg3) (ix3 ⟨4 * (t.val % 4) + j.val, by have := j.isLt; omega⟩ k f) := by
  have := points0 t
  unfold iblk
  entry_read
  blk_ext [idx0 t]

theorem up_blk (j : Fin 4) (k : Fin 1024) (f : Fin 256) :
    iblk m c 5 t (ix3 j k f) = m ((c : Thread nD τ).loc main_arg4) (ix3 ⟨4 * (t.val % 4) + j.val, by have := j.isLt; omega⟩ k f) := by
  have := points0 t
  unfold iblk
  entry_read
  blk_ext [idx0 t]

theorem down_blk (j : Fin 4) (f : Fin 256) (k : Fin 1024) :
    iblk m c 6 t (ix3 j f k) = m ((c : Thread nD τ).loc main_arg5) (ix3 ⟨4 * (t.val % 4) + j.val, by have := j.isLt; omega⟩ f k) := by
  have := points0 t
  unfold iblk
  entry_read
  blk_ext [idx0 t]

/-- The final weights as the host hands them over. -/
theorem weight_array (d : Fin 1024) : V m c main_v6 (ix2 0 d) = m ((c : Thread nD τ).loc main_arg6) (ix1 d) := by
  have e : V m c main_v6 = broadcastInDim S1x1024 ![1] bcast_S1024_S1x1024_1 (m ((c : Thread nD τ).loc main_arg6)) := rfl
  rw [e]
  pointwise

theorem weight_blk (d : Fin 1024) : iblk m c 7 t (ix2 0 d) = m ((c : Thread nD τ).loc main_arg6) (ix1 d) := by
  refine Eq.trans ?_ (weight_array m c d)
  unfold iblk
  blk_ext [idx0 t]

end Cert.KernelIdeal.Moe

end
-- ==== Proof.Routing.lean ====
/-
  The precondition read at one token: its group's number, the finite weights, and the zeros outside the group.
-/
module

public import proofs.«01_k».proof.Proof.Gen.Pre_routed
public import Idealize.ShloMosaic.Lib.Pointwise

@[expose] public section

set_option maxRecDepth 16384

noncomputable section

namespace Cert.Routing

open Cert.Pre_routed
open Idealize.ShloMosaic

/-- The patterns of the numbers two and three, and of infinity. -/
theorem two : Ideal.ofBits .f32 0x40000000#32 = (2 : EReal) := by
  have : ((2 : ℝ) : EReal) = 2 := rfl
  rw [← this]
  simp [Ideal.ofBits, Ideal.ieee, -EReal.coe_mul]; norm_num
theorem three : Ideal.ofBits .f32 0x40400000#32 = (3 : EReal) := by
  have : ((3 : ℝ) : EReal) = 3 := rfl
  rw [← this]
  simp [Ideal.ofBits, Ideal.ieee, -EReal.coe_mul]; norm_num
theorem infinity : Ideal.ofBits .f32 0x7F800000#32 = ⊤ := by
  simp [Ideal.ofBits, Ideal.ieee]

/-- Two truth bits joined are one when either holds. -/
theorem or_bits (p q : Bool) : IntOp.ori (BitVec.ofBool p) (BitVec.ofBool q) = BitVec.ofBool (p || q) := by
  cases p <;> cases q <;> rfl

theorem bit_one (p : Bool) : BitVec.ofBool p = 1#1 ↔ p = true := by cases p <;> simp

/-- What the precondition says of token `n`, whose group is `g`. -/
structure Token (cb : FVec Ideal S16384x128 .f32) (n : Fin 16384) (g : ℕ) : Prop where
  lt : g < 4
  lane : cb (ix2 n 20) = (g : EReal)
  finite : ∀ e : Fin 128, e.val < 16 → ∃ r : ℝ, cb (ix2 n e) = (r : EReal)
  zero : ∀ e : Fin 128, e.val < 16 → e.val / 4 ≠ g → cb (ix2 n e) = 0

variable [Cert.Pre_routed.Facts]
variable (a0 : FVec Ideal S16384x1024 .bf16) (a1 : FVec Ideal S16384x128 .f32) (a2 : FVec Ideal S16384x1024 .f32)
  (a3 a4 : FVec Ideal S16x1024x256 .f32) (a5 : FVec Ideal S16x256x1024 .f32) (a6 : FVec Ideal S1024 .f32)

theorem group_bit (n : Fin 16384) : (fn (F := Ideal) a0 a1 a2 a3 a4 a5 a6).1 (ix2 n 0) = 1#1 →
    a1 (ix2 n 20) = 0 ∨ a1 (ix2 n 20) = 1 ∨ a1 (ix2 n 20) = 2 ∨ a1 (ix2 n 20) = 3 := by
  unfold Cert.Pre_routed.fn Cert.Pre_routed.fn_part1 Cert.Pre_routed.fn_part2
  pointwise
  rw [two, three, or_bits, or_bits, or_bits, bit_one]
  simp [or_assoc]

theorem finite_bit (n : Fin 16384) (e : Fin 16) : (fn (F := Ideal) a0 a1 a2 a3 a4 a5 a6).2.1 (ix2 n e) = 1#1 →
    ∃ r : ℝ, a1 (ix2 n ⟨e.val, by have := e.isLt; omega⟩) = (r : EReal) := by
  unfold Cert.Pre_routed.fn Cert.Pre_routed.fn_part1 Cert.Pre_routed.fn_part2
  pointwise
  rw [infinity, bit_one, decide_eq_true_iff]
  intro h
  change max (a1 (ix2 n ⟨e.val, by have := e.isLt; omega⟩)) (-a1 (ix2 n ⟨e.val, by have := e.isLt; omega⟩)) < ⊤ at h
  revert h
  induction a1 (ix2 n ⟨e.val, by have := e.isLt; omega⟩) using EReal.rec with
  | bot => intro h; exact absurd h (by simp)
  | top => intro h; exact absurd h (by simp)
  | coe r => exact fun _ => ⟨r, rfl⟩

theorem zero_bit0 (n : Fin 16384) (j : Fin 4) : (fn (F := Ideal) a0 a1 a2 a3 a4 a5 a6).2.2.1 (ix2 n j) = 1#1 →
    a1 (ix2 n 20) = 0 ∨ a1 (ix2 n ⟨j.val, by have := j.isLt; omega⟩) = 0 := by
  unfold Cert.Pre_routed.fn Cert.Pre_routed.fn_part1 Cert.Pre_routed.fn_part2
  pointwise
  rw [or_bits, bit_one]
  simp

theorem zero_bit1 (n : Fin 16384) (j : Fin 4) : (fn (F := Ideal) a0 a1 a2 a3 a4 a5 a6).2.2.2.1 (ix2 n j) = 1#1 →
    a1 (ix2 n 20) = 1 ∨ a1 (ix2 n ⟨4 + j.val, by have := j.isLt; omega⟩) = 0 := by
  unfold Cert.Pre_routed.fn Cert.Pre_routed.fn_part1 Cert.Pre_routed.fn_part2
  pointwise
  rw [or_bits, bit_one]
  simp

theorem zero_bit2 (n : Fin 16384) (j : Fin 4) : (fn (F := Ideal) a0 a1 a2 a3 a4 a5 a6).2.2.2.2.1 (ix2 n j) = 1#1 →
    a1 (ix2 n 20) = 2 ∨ a1 (ix2 n ⟨8 + j.val, by have := j.isLt; omega⟩) = 0 := by
  unfold Cert.Pre_routed.fn Cert.Pre_routed.fn_part1 Cert.Pre_routed.fn_part2
  pointwise
  rw [two, or_bits, bit_one]
  simp

theorem zero_bit3 (n : Fin 16384) (j : Fin 4) : (fn (F := Ideal) a0 a1 a2 a3 a4 a5 a6).2.2.2.2.2 (ix2 n j) = 1#1 →
    a1 (ix2 n 20) = 3 ∨ a1 (ix2 n ⟨12 + j.val, by have := j.isLt; omega⟩) = 0 := by
  unfold Cert.Pre_routed.fn Cert.Pre_routed.fn_part1 Cert.Pre_routed.fn_part2
  pointwise
  rw [three, or_bits, bit_one]
  simp

/-- A weight is zero when each group's four are zero or the token is of that group, and the weight lies outside the token's group. -/
theorem zero_of (cb : FVec Ideal S16384x128 .f32) (n : Fin 16384) (g : ℕ) (hl : cb (ix2 n 20) = (g : EReal))
    (hz : ∀ (k : ℕ) (hk : k < 4) (j : Fin 4), cb (ix2 n 20) = (k : EReal) ∨ cb (ix2 n ⟨4 * k + j.val, by have := j.isLt; omega⟩) = 0)
    (e : Fin 128) (he : e.val < 16) (hg : e.val / 4 ≠ g) : cb (ix2 n e) = 0 := by
  rcases hz (e.val / 4) (by omega) ⟨e.val % 4, Nat.mod_lt _ (by decide)⟩ with h | h
  · rw [hl] at h
    exact absurd (by exact_mod_cast h.symm) hg
  · have : (⟨4 * (e.val / 4) + e.val % 4, by have := e.isLt; omega⟩ : Fin 128) = e := Fin.ext (Nat.div_add_mod _ _)
    rw [← this]; exact h

/-- Every token has a group. -/
theorem token (h : (fn (F := Ideal) a0 a1 a2 a3 a4 a5 a6).1 = (fun _ => 1#1) ∧ (fn (F := Ideal) a0 a1 a2 a3 a4 a5 a6).2.1 = (fun _ => 1#1) ∧ (fn (F := Ideal) a0 a1 a2 a3 a4 a5 a6).2.2.1 = (fun _ => 1#1) ∧ (fn (F := Ideal) a0 a1 a2 a3 a4 a5 a6).2.2.2.1 = (fun _ => 1#1)
    ∧ (fn (F := Ideal) a0 a1 a2 a3 a4 a5 a6).2.2.2.2.1 = (fun _ => 1#1) ∧ (fn (F := Ideal) a0 a1 a2 a3 a4 a5 a6).2.2.2.2.2 = (fun _ => 1#1)) (n : Fin 16384) : ∃ g, Token a1 n g := by
  obtain ⟨h0, h1, h2, h3, h4, h5⟩ := h
  have hz : ∀ (k : ℕ) (hk : k < 4) (j : Fin 4), a1 (ix2 n 20) = (k : EReal) ∨ a1 (ix2 n ⟨4 * k + j.val, by have := j.isLt; omega⟩) = 0 := by
    intro k hk j
    interval_cases k
    · simpa using zero_bit0 a0 a1 a2 a3 a4 a5 a6 n j (congrFun h2 _)
    · simpa using zero_bit1 a0 a1 a2 a3 a4 a5 a6 n j (congrFun h3 _)
    · simpa using zero_bit2 a0 a1 a2 a3 a4 a5 a6 n j (congrFun h4 _)
    · simpa using zero_bit3 a0 a1 a2 a3 a4 a5 a6 n j (congrFun h5 _)
  have hf : ∀ e : Fin 128, e.val < 16 → ∃ r : ℝ, a1 (ix2 n e) = (r : EReal) := fun e he =>
    finite_bit a0 a1 a2 a3 a4 a5 a6 n ⟨e.val, he⟩ (congrFun h1 _)
  have hg : ∃ g : ℕ, g < 4 ∧ a1 (ix2 n 20) = (g : EReal) := by
    rcases group_bit a0 a1 a2 a3 a4 a5 a6 n (congrFun h0 _) with h | h | h | h
    · exact ⟨0, by decide, by simpa using h⟩
    · exact ⟨1, by decide, by simpa using h⟩
    · exact ⟨2, by decide, by simpa using h⟩
    · exact ⟨3, by decide, by simpa using h⟩
  obtain ⟨g, hg, hl⟩ := hg
  exact ⟨g, hg, hl, hf, zero_of a1 n g hl hz⟩

end Cert.Routing

end
-- ==== Proof.Result.lean ====
/-
  The kernel's output block at the extended reals, under the routing of the tokens: at a tile's last point every row is the reference's
  formula, and the sixteen blocks make the whole array.
-/
module

public import proofs.«01_k».proof.Proof.Body
public import proofs.«01_k».proof.Proof.Tile
public import proofs.«01_k».proof.Proof.Arrays
public import proofs.«01_k».proof.Proof.Formula
public import proofs.«01_k».proof.Proof.Routing

@[expose] public section

set_option maxRecDepth 16384

noncomputable section

namespace Cert.KernelIdeal.Moe

open Cert.KernelIdeal Cert.KernelIdeal.Gen Cert.Words Cert.Count
open Idealize.ShloMosaic Idealize.ShloMosaic.TcCoe

variable (m : (ℓ : Loc nD τ sig) → Buf (Elt Ideal) ℓ) (c : Dev nD)

/-- The second coordinate of point `t` is its group. -/
theorem coords1 : ∀ t : Fin cfg0.N, (grid0.coords t 1).val = t.val % 4 := by
  change ∀ t : Fin grid0.N, (grid0.coords t 1).val = t.val % 4
  decide +kernel

/-- Row `r` of the tile of point `n`. -/
def rowOf (n : Fin cfg0.N) (r : Fin 1024) : Fin 16384 :=
  ⟨1024 * (n.val / 4) + r.val, by have := points0 n; have := r.isLt; omega⟩

theorem tileFirst_div (n : Fin cfg0.N) : (tileFirst n.val).val / 4 = n.val / 4 := by
  have := points0 n
  simp only [tileFirst]; omega

theorem rowOf_tile (n : Fin cfg0.N) (r : Fin 1024) (h) : (⟨1024 * ((tileFirst n.val).val / 4) + r.val, h⟩ : Fin 16384) = rowOf n r := by
  apply Fin.ext; simp only [rowOf, tileFirst_div]

/-- The tile's rows and combine weights as rows of the arguments. -/
theorem hOf_apply (n : Fin cfg0.N) (r k : Fin 1024) : hOf m c n.val (ix2 r k) = m ((c : Thread nD τ).loc main_arg0) (ix2 (rowOf n r) k) := by
  rw [hOf, rows_blk, rowOf_tile]

theorem cbOf_apply (n : Fin cfg0.N) (r : Fin 1024) (k : Fin 128) :
    cbOf m c n.val (ix2 r k) = m ((c : Thread nD τ).loc main_arg1) (ix2 (rowOf n r) k) := by
  rw [cbOf, comb_blk, rowOf_tile]

theorem triOf_triangle (n : ℕ) : Triangle (triOf m c n) := fun a b => tri_blk m c (tileFirst n) a b

/-- The term of expert `e` for row `n` at column `d`, of the kernel's arguments. -/
def argTerm (n : Fin 16384) (d : Fin 1024) (e : Fin 16) : EReal :=
  Formula.term (m ((c : Thread nD τ).loc main_arg0)) (m ((c : Thread nD τ).loc main_arg1)) (m ((c : Thread nD τ).loc main_arg3))
    (m ((c : Thread nD τ).loc main_arg4)) (m ((c : Thread nD τ).loc main_arg5)) n d e

/-- Point `n` adds, at a token's position, the terms of its group's four experts. -/
theorem accStep_apply {gr : ℕ → ℕ} (n : Fin cfg0.N) (hR : Routed (cbOf m c n.val) gr) (y : Vec Ideal S1024x1024 .f32)
    (t : Fin 1024) (hp : pos gr t.val < 1024) (d : Fin 1024) :
    accStep m c n y (ix2 ⟨pos gr t.val, hp⟩ d) = y (ix2 ⟨pos gr t.val, hp⟩ d)
      + ∑ j : Fin 4, argTerm m c (rowOf n t) d ⟨4 * (n.val % 4) + j.val, by have := j.isLt; omega⟩ := by
  rw [accStep, hsOf, csOf, segOf, groupAfter_apply _ hR (triOf_triangle m c n.val)]
  refine congrArg (fun z : EReal => y (ix2 ⟨pos gr t.val, hp⟩ d) + z) ?_
  unfold groupTerm
  refine Finset.sum_congr rfl fun j _ => ?_
  simp only [argTerm, Formula.term, hOf_apply, cbOf_apply, gate_blk, up_blk, down_blk, coords1]

/-- The weights of a tile do not change within the tile. -/
theorem cbOf_same (n k : ℕ) (h : n / 4 = k / 4) : cbOf m c n = cbOf m c k := by
  have : tileFirst n = tileFirst k := by apply Fin.ext; simp only [tileFirst, h]
  rw [cbOf, cbOf, this]

/-- The cleared accumulator is zero. -/
theorem cleared (r d : Fin 1024) : k0_pay139 (F := Ideal) (ix2 r d) = (0 : EReal) := by
  pointwise [k0_pay139]

/-- After the four points of tile `i` the accumulator holds, at a token's position, the sum of the sixteen experts' terms. -/
theorem acc_tile {gr : ℕ → ℕ} (n : Fin cfg0.N) (hn : n.val % 4 = 3) (hR : Routed (cbOf m c n.val) gr)
    (t : Fin 1024) (hp : pos gr t.val < 1024) (d : Fin 1024) :
    acc m c (n.val + 1) (ix2 ⟨pos gr t.val, hp⟩ d) = ∑ e, argTerm m c (rowOf n t) d e := by
  have hlt := points0 n
  -- each point of the tile adds its group's terms
  have step : ∀ (k : ℕ) (hk : k < 4), acc m c (4 * (n.val / 4) + k + 1) (ix2 ⟨pos gr t.val, hp⟩ d)
      = (if k = 0 then k0_pay139 else acc m c (4 * (n.val / 4) + k)) (ix2 ⟨pos gr t.val, hp⟩ d)
        + ∑ j : Fin 4, argTerm m c (rowOf n t) d ⟨4 * k + j.val, by have := j.isLt; omega⟩ := by
    intro k hk
    have hb : 4 * (n.val / 4) + k < cfg0.N := lt_of_lt_of_eq (show 4 * (n.val / 4) + k < 64 by omega) N_0.symm
    have h4 : (4 * (n.val / 4) + k) % 4 = k := by omega
    have hr : rowOf ⟨4 * (n.val / 4) + k, hb⟩ t = rowOf n t := by
      apply Fin.ext; simp only [rowOf]; congr 2; omega
    have e := acc_succ m c ⟨4 * (n.val / 4) + k, hb⟩
    simp only [h4] at e
    rw [e, accStep_apply m c ⟨4 * (n.val / 4) + k, hb⟩ (by rw [cbOf_same m c (4 * (n.val / 4) + k) n.val (by omega)]; exact hR), hr]
    simp only [h4]
  have e3 := step 3 (by decide)
  have e2 := step 2 (by decide)
  have e1 := step 1 (by decide)
  have e0 := step 0 (by decide)
  simp only [if_neg (show ¬ (3 : ℕ) = 0 by decide), if_neg (show ¬ (2 : ℕ) = 0 by decide), if_neg (show ¬ (1 : ℕ) = 0 by decide), if_pos] at e0 e1 e2 e3
  have hn1 : n.val + 1 = 4 * (n.val / 4) + 3 + 1 := by omega
  rw [hn1, e3, show 4 * (n.val / 4) + 3 = 4 * (n.val / 4) + 2 + 1 from rfl, e2, show 4 * (n.val / 4) + 2 = 4 * (n.val / 4) + 1 + 1 from rfl, e1,
    show 4 * (n.val / 4) + 1 = 4 * (n.val / 4) + 0 + 1 from rfl, e0, cleared, Formula.sum_groups]

/-- The result of the arguments at row `n` and column `d`. -/
def argOut (n : Fin 16384) (d : Fin 1024) : EReal :=
  Formula.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) n d

/-- A tile's output block is the result at the tile's rows. -/
theorem outOf_apply {gr : ℕ → ℕ} (n : Fin cfg0.N) (hn : n.val % 4 = 3) (hR : Routed (cbOf m c n.val) gr) (r d : Fin 1024) :
    outOf m c n (ix2 r d) = argOut m c (rowOf n r) d := by
  rw [outOf, ptOf, finish_apply hR (triOf_triangle m c n.val) _ _ _ (fun d => ∑ e, argTerm m c (rowOf n r) d e) r
    (pos_lt_all gr hR.lt r.val r.isLt) (fun d => acc_tile m c n hn hR r _ d) d]
  simp only [resid_blk, weight_blk]
  rfl

/-- The tokens' groups route every tile. -/
theorem routed_tile (hT : ∀ n : Fin 16384, ∃ g, Routing.Token (m ((c : Thread nD τ).loc main_arg1)) n g) (n : Fin cfg0.N) :
    ∃ gr, Routed (cbOf m c n.val) gr := by
  choose g hg using hT
  have e : ∀ t : Fin 1024, (if h : t.val < 1024 then g (rowOf n ⟨t.val, h⟩) else 0) = g (rowOf n t) := fun t => dif_pos t.isLt
  refine ⟨fun t => if h : t < 1024 then g (rowOf n ⟨t, h⟩) else 0, ⟨fun t => ?_, fun t => ?_⟩, fun t k hk => ?_, fun t k hk hne => ?_⟩
  · by_cases h : t < 1024
    · simp only [dif_pos h]; exact (hg _).lt
    · simp only [dif_neg h]; decide
  · simp only [e, cbOf_apply]; exact (hg _).lane
  · rw [cbOf_apply]; exact (hg _).finite k hk
  · simp only [e] at hne
    rw [cbOf_apply]; exact (hg _).zero k hk hne

/-- The output array after the run is the result, row by row. -/
theorem out_array (hT : ∀ n : Fin 16384, ∃ g, Routing.Token (m ((c : Thread nD τ).loc main_arg1)) n g) :
    (dats m 0 c).arrAt 8 cfg0.N = fun i => argOut m c (i 0) (i 1) := by
  refine (dats m 0 c).arrAt_eq_of_covers 8 _ (by decide +kernel) fun t hf y => ?_
  blk_simp
  have h3 : t.val % 4 = 3 := (flush0_8 t).mp hf
  obtain ⟨gr, hR⟩ := routed_tile m c hT t
  obtain ⟨r, d, rfl⟩ : ∃ r d : Fin 1024, y = ix2 r d := ⟨y 0, y 1, by funext a; match a with | 0 => rfl | 1 => rfl⟩
  refine (outOf_apply m c t h3 hR r d).trans ?_
  have i := (idx0 t).2.2.2.2.2.2.2.2
  congr 1
  · apply Fin.ext
    simp only [rowOf]
    blk_simp
    have i0 : win0_8.index t 0 = t.val / 4 := congrFun i 0
    rw [i0]; omega
  · apply Fin.ext
    blk_simp
    have i1 : win0_8.index t 1 = 0 := congrFun i 1
    rw [i1]; omega

variable (ρ : Dev nD → PrngReg)

/-- The kernel at the extended reals, under the routing: the run ends with the result in the output array and the arguments unchanged. -/
theorem run_result (hT : ∀ (c : Dev nD) (n : Fin 16384), ∃ g, Routing.Token (m ((c : Thread nD τ).loc main_arg1)) n g) :
    θ_run defs (onTc (τ := τ) (main (F := Ideal))) ⟨m, fun _ => 0, ρ⟩ (fun r => ∀ c : Dev nD,
      r.2.mem ((c.tc : Thread nD τ).loc main_v7) = fun i => argOut m c (i 0) (i 1)) :=
  (θ_run defs _ _).mono (fun r h c => ((h.1 c).1 8).trans (out_array m c (hT c))) (run_main m ρ)

end Cert.KernelIdeal.Moe

end
-- ==== Proof.OutBlock.lean ====
/-
  One block of the output projection at the extended reals: the sum of the row and its four projected parts, and that sum scaled by its
  root mean square and the weights.
-/
module

public import proofs.«01_k».proof.Proof.Gen.Kernel2Ideal.Frame
public import proofs.«01_k».proof.Proof.Formula
public import Idealize.ShloMosaic.Lib.Pointwise
public import Idealize.ShloMosaic.Lib.Pipeline.Value

@[expose] public section

set_option maxRecDepth 16384

noncomputable section

namespace Cert.Kernel2Ideal.Proj

open Cert.Kernel2Ideal Cert.Kernel2Ideal.Gen
open Idealize.ShloMosaic Idealize.ShloMosaic.TcCoe

/-- A value plus the products of four parts with the four quarters of a column of the projection. -/
def projected (x : EReal) (a b e f : Fin 256 → EReal) (w : Fin 1024 → EReal) : EReal :=
  (((x + ∑ k : Fin 256, a k * w ⟨k.val, by have := k.isLt; omega⟩) + ∑ k : Fin 256, b k * w ⟨256 + k.val, by have := k.isLt; omega⟩)
    + ∑ k : Fin 256, e k * w ⟨512 + k.val, by have := k.isLt; omega⟩) + ∑ k : Fin 256, f k * w ⟨768 + k.val, by have := k.isLt; omega⟩

variable (x0 : Vec Ideal S512x1024 .f32) (x1 x2 x3 x4 : Vec Ideal S512x256 .f32) (x5 : Vec Ideal S1024x1024 .bf16)
  (x6 : Vec Ideal S1x1024 .f32) (x7 : Vec Ideal S1024x256 .bf16) (x8 : Vec Ideal S1x128 .f32)

/-- The block's sum at row `r` and column `d`. -/
def blockSum (r : Fin 512) (d : Fin 1024) : EReal :=
  projected (x0 (ix2 r d)) (fun k => x1 (ix2 r k)) (fun k => x2 (ix2 r k)) (fun k => x3 (ix2 r k)) (fun k => x4 (ix2 r k)) (fun k => x5 (ix2 k d))

/-- The upper half of the block's rows. -/
theorem upper_apply (r : Fin 256) (d : Fin 1024) :
    k0_pay48 x0 x1 x2 x3 x4 x5 x6 x7 x8 (ix2 r d) = blockSum x0 x1 x2 x3 x4 x5 ⟨r.val, by have := r.isLt; omega⟩ d := by
  unfold k0_pay48
  pointwise [k0_pay2]
  rfl

/-- The lower half of the block's rows. -/
theorem lower_apply (r : Fin 256) (d : Fin 1024) :
    k0_pay49 x0 x1 x2 x3 x4 x5 x6 x7 x8 (ix2 r d) = blockSum x0 x1 x2 x3 x4 x5 ⟨256 + r.val, by have := r.isLt; omega⟩ d := by
  unfold k0_pay49
  pointwise [k0_pay5, k0_pay3, k0_pay4]
  rfl

/-- The block's row sum scaled, at row `r` and column `d`. -/
def blockNorm (r : Fin 512) (d : Fin 1024) : EReal :=
  Formula.scaled (blockSum x0 x1 x2 x3 x4 x5 r) (fun k => x6 (ix2 (0 : Fin 1) k)) d

/-- The scaling as the upper half computes it. -/
theorem scale_upper (v : FVec Ideal S256x1024 .f32) (r : Fin 256) (d : Fin 1024) :
    k0_pay7 v (View.ld x6 r0_8) (ix2 r d) = Formula.scaled (fun k => v (ix2 r k)) (fun k => x6 (ix2 (0 : Fin 1) k)) d := by
  pointwise [k0_pay7, k0_pay6]
  rfl

/-- The scaling as the lower half computes it. -/
theorem scale_lower (v : FVec Ideal S256x1024 .f32) (r : Fin 256) (d : Fin 1024) :
    k0_pay28 v (View.ld x6 r0_8) (ix2 r d) = Formula.scaled (fun k => v (ix2 r k)) (fun k => x6 (ix2 (0 : Fin 1) k)) d := by
  pointwise [k0_pay28, k0_pay27]
  rfl

/-- A row and a column of an index of a half. -/
theorem half_idx (x : S256x1024.Idx) : ∃ (r : Fin 256) (d : Fin 1024), x = ix2 r d :=
  ⟨x 0, x 1, by funext a; match a with | 0 => rfl | 1 => rfl⟩

theorem emb_upper (r : Fin 256) (d : Fin 1024) : r0_0.emb (ix2 r d) = ix2 (⟨r.val, by have := r.isLt; omega⟩ : Fin 512) d := by
  funext i
  apply Fin.ext
  fin_cases i <;> simp [ix2]

theorem emb_lower (r : Fin 256) (d : Fin 1024) : r0_6.emb (ix2 r d) = ix2 (⟨256 + r.val, by have := r.isLt; omega⟩ : Fin 512) d := by
  funext i
  apply Fin.ext
  fin_cases i <;> simp [ix2]

/-- What a point leaves in the block of sums. -/
theorem sums_apply (r : Fin 512) (d : Fin 1024) :
    out0_9 x0 x1 x2 x3 x4 x5 x6 x7 x8 (ix2 r d) = blockSum x0 x1 x2 x3 x4 x5 r d := by
  unfold out0_9
  refine View.canon_apply_of_pieces (Val := Elt Ideal) (fun y => blockSum x0 x1 x2 x3 x4 x5 (y 0) (y 1)) _ (fun p hp x => ?_) (ix2 r d) (cover0_9 _ _ _)
  simp only [List.mem_cons, List.not_mem_nil, or_false] at hp
  rcases hp with rfl | rfl
  · obtain ⟨r, d, rfl⟩ := half_idx x
    rw [emb_lower]; exact lower_apply x0 x1 x2 x3 x4 x5 x6 x7 x8 r d
  · obtain ⟨r, d, rfl⟩ := half_idx x
    rw [emb_upper]; exact upper_apply x0 x1 x2 x3 x4 x5 x6 x7 x8 r d

/-- What a point leaves in the block of scaled rows. -/
theorem norms_apply (r : Fin 512) (d : Fin 1024) :
    out0_10 x0 x1 x2 x3 x4 x5 x6 x7 x8 (ix2 r d) = blockNorm x0 x1 x2 x3 x4 x5 x6 r d := by
  unfold out0_10
  refine View.canon_apply_of_pieces (Val := Elt Ideal) (fun y => blockNorm x0 x1 x2 x3 x4 x5 x6 (y 0) (y 1)) _ (fun p hp x => ?_) (ix2 r d) (cover0_10 _ _ _)
  simp only [List.mem_cons, List.not_mem_nil, or_false] at hp
  rcases hp with rfl | rfl
  · obtain ⟨r, d, rfl⟩ := half_idx x
    rw [emb_lower]
    refine (scale_lower x6 _ r d).trans ?_
    simp only [lower_apply]
    rfl
  · obtain ⟨r, d, rfl⟩ := half_idx x
    rw [emb_upper]
    refine (scale_upper x6 _ r d).trans ?_
    simp only [upper_apply]
    rfl

end Cert.Kernel2Ideal.Proj

end
-- ==== Proof.OutFormula.lean ====
/-
  What the reference of the output projection computes, read at one row and column: the row plus its four parts' projections, and that sum
  scaled by its root mean square and the weights.
-/
module

public import proofs.«01_k».proof.Proof.Gen.Reference2Ideal
public import proofs.«01_k».proof.Proof.Gen.Reference2Ideal.Run
public import proofs.«01_k».proof.Proof.OutBlock

@[expose] public section

set_option maxRecDepth 16384

noncomputable section

namespace Cert.ProjFormula

open Cert.Reference2Ideal Cert.Reference2Ideal.Gen
open Idealize.ShloMosaic

variable (x : Vec Ideal S16384x1024 .f32) (a b e f : Vec Ideal S16384x256 .f32) (w : Vec Ideal S1024x1024 .f32) (g : Vec Ideal S1024 .f32)

/-- The sum at row `n` and column `d`. -/
def sum (n : Fin 16384) (d : Fin 1024) : EReal :=
  Cert.Kernel2Ideal.Proj.projected (x (ix2 n d)) (fun k => a (ix2 n k)) (fun k => b (ix2 n k)) (fun k => e (ix2 n k)) (fun k => f (ix2 n k))
    (fun k => w (ix2 k d))

/-- The scaled sum at row `n` and column `d`. -/
def norm (n : Fin 16384) (d : Fin 1024) : EReal :=
  Cert.Formula.scaled (sum x a b e f w n) (fun k => g (ix1 k)) d

/-- A sum of 1024 terms is the sums of its four quarters. -/
theorem sum_quarters (u : Fin 1024 → EReal) :
    ∑ k, u k = ((∑ k : Fin 256, u ⟨k.val, by have := k.isLt; omega⟩ + ∑ k : Fin 256, u ⟨256 + k.val, by have := k.isLt; omega⟩)
      + ∑ k : Fin 256, u ⟨512 + k.val, by have := k.isLt; omega⟩) + ∑ k : Fin 256, u ⟨768 + k.val, by have := k.isLt; omega⟩ := by
  have h3 := Fin.sum_univ_add (a := 768) (b := 256) u
  have h2 := Fin.sum_univ_add (a := 512) (b := 256) (fun i : Fin 768 => u (Fin.castAdd 256 i))
  have h1 := Fin.sum_univ_add (a := 256) (b := 256) (fun i : Fin 512 => u (Fin.castAdd 256 (Fin.castAdd 256 i)))
  exact h3.trans (congrArg (fun z : EReal => z + _) (h2.trans (congrArg (fun z : EReal => z + _) h1)))

end Cert.ProjFormula

namespace Cert.Reference2Ideal.Value

open Cert.Reference2Ideal Cert.Reference2Ideal.Gen
open Idealize.ShloMosaic Idealize.ShloMosaic.TcCoe

variable (x : Vec Ideal S16384x1024 .f32) (a b e f : Vec Ideal S16384x256 .f32) (w : Vec Ideal S1024x1024 .f32) (g : Vec Ideal S1024 .f32)

/-- The reference's sums. -/
def sums : FVec Ideal S16384x1024 .f32 :=
  addf x (Host.dotGeneral (F := Ideal) (φ₁ := .f32) (φ₂ := .f32) dot_S16384x1024_S1024x1024_S16384x1024_1_0_0_1_n_n none
    (concatenate (α := Ideal .f32) S16384x1024 1 [⟨S16384x256, a⟩, ⟨S16384x256, b⟩, ⟨S16384x256, e⟩, ⟨S16384x256, f⟩]
      concatenates_S16384x256_S16384x256_S16384x256_S16384x256_S16384x1024_d1) w)

/-- The reference's scaled rows, of its sums. -/
def norms (s : FVec Ideal S16384x1024 .f32) : FVec Ideal S16384x1024 .bf16 :=
  truncf .bf16 (mulf (mulf s (broadcastInDim S16384x1024 ![0, 1] bcast_S16384x1_S16384x1024_0_1
    (Host.rsqrt (addf (Host.divf (broadcastInDim S16384x1 ![0] bcast_S16384_S16384x1_0
      (Host.reduceAdd (mulf s s) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))) bitsLt_bf16_f32

/-- The reference's sum at row `n` and column `d`. -/
theorem sums_apply (n : Fin 16384) (d : Fin 1024) : sums x a b e f w (ix2 n d) = Cert.ProjFormula.sum x a b e f w n d := by
  unfold sums
  pointwise
  rw [Cert.ProjFormula.sum_quarters]
  unfold Cert.ProjFormula.sum Cert.Kernel2Ideal.Proj.projected
  have first : ∀ k : Fin 256, k.val < 256 := fun k => k.isLt
  have second : ∀ k : Fin 256, ¬ 256 + k.val < 256 := fun k => by omega
  have third : ∀ k : Fin 256, ¬ 512 + k.val < 256 ∧ ¬ 512 + k.val - 256 < 256 ∧ 512 + k.val - 256 - 256 < 256 := fun k => by omega
  have fourth : ∀ k : Fin 256, ¬ 768 + k.val < 256 ∧ ¬ 768 + k.val - 256 < 256 ∧ ¬ 768 + k.val - 256 - 256 < 256 := fun k => by omega
  have at2 : ∀ k : Fin 256, 256 + k.val - 256 = k.val := fun k => by omega
  have at3 : ∀ k : Fin 256, 512 + k.val - 256 - 256 = k.val := fun k => by omega
  have at4 : ∀ k : Fin 256, 768 + k.val - 256 - 256 - 256 = k.val := fun k => by omega
  simp only [first, second, third, fourth, at2, at3, at4, dite_true, dite_false, add_assoc]

/-- The reference's scaled row at row `n` and column `d`. -/
theorem norms_apply (s : FVec Ideal S16384x1024 .f32) (n : Fin 16384) (d : Fin 1024) :
    norms g s (ix2 n d) = Cert.Formula.scaled (fun k => s (ix2 n k)) (fun k => g (ix1 k)) d := by
  unfold norms
  pointwise
  rfl

end Cert.Reference2Ideal.Value

end
-- ==== Proof.OutArray.lean ====
/-
  The output projection's arrays at the extended reals: the blocks as parts of the arguments, and the two results row by row.
-/
module

public import proofs.«01_k».proof.Proof.Gen.Kernel2Ideal.Value
public import proofs.«01_k».proof.Proof.OutFormula
public import Idealize.ShloMosaic.Lib.Claim
public import Idealize.ShloMosaic.Lib.Pipeline.ValueKit

@[expose] public section

set_option maxRecDepth 16384

noncomputable section

namespace Cert.Kernel2Ideal.Proj

open Cert.Kernel2Ideal Cert.Kernel2Ideal.Gen
open Idealize.ShloMosaic Idealize.ShloMosaic.TcCoe

/-- Where each window's block lies at point `t`. -/
theorem idx0 : ∀ t : Fin cfg0.N,
    (cfg0.win 0).index t = ![t.val, 0] ∧ (cfg0.win 1).index t = ![t.val, 0] ∧ (cfg0.win 2).index t = ![t.val, 0]
    ∧ (cfg0.win 3).index t = ![t.val, 0] ∧ (cfg0.win 4).index t = ![t.val, 0] ∧ (cfg0.win 5).index t = ![0, 0]
    ∧ (cfg0.win 6).index t = ![0, 0] ∧ (cfg0.win 9).index t = ![t.val, 0] ∧ (cfg0.win 10).index t = ![t.val, 0] := by
  decide +kernel

theorem points0 (t : Fin cfg0.N) : t.val < 32 := t.isLt

variable (m : (ℓ : Loc nD τ sig) → Buf (Elt Ideal) ℓ) (c : Dev nD) (t : Fin cfg0.N)

/-- Row `r` of the block of point `t`. -/
def rowOf (r : Fin 512) : Fin 16384 :=
  ⟨512 * t.val + r.val, by have := points0 t; have := r.isLt; omega⟩

theorem resid_blk (r : Fin 512) (d : Fin 1024) : iblk m c 0 t (ix2 r d) = m ((c : Thread nD τ).loc main_arg0) (ix2 (rowOf t r) d) := by
  have := points0 t
  unfold rowOf
  blk_ext [iblk, V_main_arg0, idx0 t]

theorem part1_blk (r : Fin 512) (k : Fin 256) : iblk m c 1 t (ix2 r k) = m ((c : Thread nD τ).loc main_arg1) (ix2 (rowOf t r) k) := by
  have := points0 t
  unfold rowOf
  blk_ext [iblk, V_main_arg1, idx0 t]

theorem part2_blk (r : Fin 512) (k : Fin 256) : iblk m c 2 t (ix2 r k) = m ((c : Thread nD τ).loc main_arg2) (ix2 (rowOf t r) k) := by
  have := points0 t
  unfold rowOf
  blk_ext [iblk, V_main_arg2, idx0 t]

theorem part3_blk (r : Fin 512) (k : Fin 256) : iblk m c 3 t (ix2 r k) = m ((c : Thread nD τ).loc main_arg3) (ix2 (rowOf t r) k) := by
  have := points0 t
  unfold rowOf
  blk_ext [iblk, V_main_arg3, idx0 t]

theorem part4_blk (r : Fin 512) (k : Fin 256) : iblk m c 4 t (ix2 r k) = m ((c : Thread nD τ).loc main_arg4) (ix2 (rowOf t r) k) := by
  have := points0 t
  unfold rowOf
  blk_ext [iblk, V_main_arg4, idx0 t]

theorem matrix_array (k d : Fin 1024) : V m c main_v21 (ix2 k d) = m ((c : Thread nD τ).loc main_arg5) (ix2 k d) := by
  have e : V m c main_v21 = (truncf .bf16 (m ((c : Thread nD τ).loc main_arg5) : FVec Ideal S1024x1024 .f32) bitsLt_bf16_f32 : FVec Ideal S1024x1024 .bf16) := rfl
  rw [e]
  pointwise

theorem matrix_blk (k d : Fin 1024) : iblk m c 5 t (ix2 k d) = m ((c : Thread nD τ).loc main_arg5) (ix2 k d) := by
  refine Eq.trans ?_ (matrix_array m c k d)
  unfold iblk
  blk_ext [idx0 t]

theorem weight_array (k : Fin 1024) : V m c main_v22 (ix2 (0 : Fin 1) k) = m ((c : Thread nD τ).loc main_arg6) (ix1 k) := by
  have e : V m c main_v22 = broadcastInDim S1x1024 ![1] bcast_S1024_S1x1024_1 (m ((c : Thread nD τ).loc main_arg6)) := rfl
  rw [e]
  pointwise

theorem weight_blk (k : Fin 1024) : iblk m c 6 t (ix2 (0 : Fin 1) k) = m ((c : Thread nD τ).loc main_arg6) (ix1 k) := by
  refine Eq.trans ?_ (weight_array m c k)
  unfold iblk
  blk_ext [idx0 t]

/-- The two results of the arguments at row `n` and column `d`. -/
def argSum (n : Fin 16384) (d : Fin 1024) : EReal :=
  ProjFormula.sum (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) n d

def argNorm (n : Fin 16384) (d : Fin 1024) : EReal :=
  ProjFormula.norm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) n d

theorem blockSum_arg (r : Fin 512) (d : Fin 1024) :
    blockSum (iblk m c 0 t) (iblk m c 1 t) (iblk m c 2 t) (iblk m c 3 t) (iblk m c 4 t) (iblk m c 5 t) r d = argSum m c (rowOf t r) d := by
  unfold blockSum
  simp only [resid_blk, part1_blk, part2_blk, part3_blk, part4_blk, matrix_blk]
  rfl

theorem blockNorm_arg (r : Fin 512) (d : Fin 1024) :
    blockNorm (iblk m c 0 t) (iblk m c 1 t) (iblk m c 2 t) (iblk m c 3 t) (iblk m c 4 t) (iblk m c 5 t) (iblk m c 6 t) r d
      = argNorm m c (rowOf t r) d := by
  unfold blockNorm
  rw [funext (blockSum_arg m c t r)]
  simp only [weight_blk]
  rfl

/-- The array of sums after the run. -/
theorem sums_array : (dats m 0 c).arrAt 9 cfg0.N = fun i => argSum m c (i 0) (i 1) := by
  refine (dats m 0 c).arrAt_eq_of_covers 9 _ (by decide +kernel) fun t hf y => ?_
  blk_simp
  rw [after0_9]
  obtain ⟨r, d, rfl⟩ : ∃ (r : Fin 512) (d : Fin 1024), y = ix2 r d := ⟨y 0, y 1, by funext a; match a with | 0 => rfl | 1 => rfl⟩
  refine ((sums_apply _ _ _ _ _ _ _ _ _ r d).trans (blockSum_arg m c t r d)).trans ?_
  have i := (idx0 t).2.2.2.2.2.2.2.1
  congr 1
  · apply Fin.ext
    simp only [rowOf]
    blk_simp
    have i0 : win0_9.index t 0 = t.val := congrFun i 0
    rw [i0]; omega
  · apply Fin.ext
    blk_simp
    have i1 : win0_9.index t 1 = 0 := congrFun i 1
    rw [i1]; omega

/-- The array of scaled rows after the run. -/
theorem norms_array : (dats m 0 c).arrAt 10 cfg0.N = fun i => argNorm m c (i 0) (i 1) := by
  refine (dats m 0 c).arrAt_eq_of_covers 10 _ (by decide +kernel) fun t hf y => ?_
  blk_simp
  rw [after0_10]
  obtain ⟨r, d, rfl⟩ : ∃ (r : Fin 512) (d : Fin 1024), y = ix2 r d := ⟨y 0, y 1, by funext a; match a with | 0 => rfl | 1 => rfl⟩
  refine ((norms_apply _ _ _ _ _ _ _ _ _ r d).trans (blockNorm_arg m c t r d)).trans ?_
  have i := (idx0 t).2.2.2.2.2.2.2.2
  congr 1
  · apply Fin.ext
    simp only [rowOf]
    blk_simp
    have i0 : win0_10.index t 0 = t.val := congrFun i 0
    rw [i0]; omega
  · apply Fin.ext
    blk_simp
    have i1 : win0_10.index t 1 = 0 := congrFun i 1
    rw [i1]; omega

end Cert.Kernel2Ideal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_routed
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Frames
public import proofs.«01_k».proof.Proof.SameProgram
public import proofs.«01_k».proof.Proof.SameInProj
public import proofs.«01_k».proof.Proof.InProjReference
public import proofs.«01_k».proof.Proof.Result
public import proofs.«01_k».proof.Proof.OutArray
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, its arguments end unchanged, every semaphore counter ends at zero. -/
theorem quiescent_kernel [hKernel : Cert.Kernel.Facts] : Cert.quiescent_Kernel := by
  intro m g _
  rw [SameProgram.main_eq (hI := Cert.KernelIdeal.Gen.facts), SameProgram.defs_eq (hI := Cert.KernelIdeal.Gen.facts)]
  exact Cert.KernelIdeal.Moe.quiescent (F := Bits) m g

/-- The reference runs, its arguments end unchanged, and it declares no semaphore. -/
theorem quiescent_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- At the extended reals, where the tokens are routed by group, the kernel's output and the reference's are the same array: the residual
    plus the sixteen experts' weighted terms, scaled row by row. -/
theorem algebraic : Cert.algebraic_KernelIdeal_ReferenceIdeal_pre_routed (hKernelIdeal := Cert.KernelIdeal.Gen.facts)
    (hReferenceIdeal := Cert.ReferenceIdeal.Gen.facts) (hPre_routed := Cert.Pre_routed.Gen.facts) := by
  intro m g m' g' hpre hagree
  refine ⟨fun c i => Cert.KernelIdeal.Moe.argOut m c (i 0) (i 1), ?_, ?_⟩
  · exact (θ_run Cert.KernelIdeal.defs _ _).mono (fun r h c => ⟨h.2 c, h.1.1 c⟩)
      (θ_run_and (Cert.KernelIdeal.Moe.quiescent (F := Ideal) m g)
        (Cert.KernelIdeal.Moe.run_result m g fun c n => Cert.Routing.token _ _ _ _ _ _ _ (hpre c) n))
  · refine (θ_run Cert.ReferenceIdeal.defs _ _).mono (fun r h c => ⟨(h c).1.trans ?_, (h c).2⟩)
      (Cert.ReferenceIdeal.Value.run (F := Ideal) m' g')
    funext i
    obtain ⟨n, d, rfl⟩ : ∃ (n : Fin 16384) (d : Fin 1024), i = ix2 n d := ⟨i 0, i 1, by funext a; match a with | 0 => rfl | 1 => rfl⟩
    refine (Cert.ReferenceIdeal.Value.result_apply m' c n d).trans ?_
    obtain ⟨e0, e1, e2, e3, e4, e5, e6⟩ := hagree c
    show _ = Cert.KernelIdeal.Moe.argOut m c n d
    unfold Cert.KernelIdeal.Moe.argOut
    rw [e0, e1, e2, e3, e4, e5, e6]

/-- The output projection as printed runs, its arguments end unchanged, every semaphore counter ends at zero. -/
theorem quiescent_kernel2 : Cert.quiescent_Kernel2 (hKernel2 := Cert.Kernel2.Gen.facts) := fun m g _ => Cert.Kernel2.Gen.frame m g

/-- The same over the extended reals. -/
theorem quiescent_kernel2_ideal : Cert.quiescent_Kernel2Ideal (hKernel2Ideal := Cert.Kernel2Ideal.Gen.facts) := fun m g _ =>
  Cert.Kernel2Ideal.Gen.frame m g

/-- The output projection's reference runs, its arguments end unchanged, and it declares no semaphore. -/
theorem quiescent_reference2 : Cert.quiescent_Reference2Ideal (hReference2Ideal := Cert.Reference2Ideal.Gen.facts) := fun m g _ =>
  (θ_run Cert.Reference2Ideal.defs _ _).mono (fun r h => ⟨fun c => (h c).2.2, sem_eq_zero_of_no_sems (by decide) r.2⟩)
    (Cert.Reference2Ideal.Value.run (F := Ideal) m g)

/-- The sums and the scaled rows of the output projection are the reference's, over the extended reals. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c i => Cert.Kernel2Ideal.Proj.argSum m c (i 0) (i 1), fun c i => Cert.Kernel2Ideal.Proj.argNorm m c (i 0) (i 1), ?_, ?_⟩
  · exact (θ_run Cert.Kernel2Ideal.defs _ _).mono (fun r h c => ⟨(h c).1.trans (Cert.Kernel2Ideal.Proj.sums_array m c),
      (h c).2.1.trans (Cert.Kernel2Ideal.Proj.norms_array m c), (h c).2.2.2⟩) (Cert.Kernel2Ideal.Value.run_blocks m g)
  · refine (θ_run Cert.Reference2Ideal.defs _ _).mono (fun r h c => ⟨(h c).1.trans ?_, (h c).2.1.trans ?_, (h c).2.2⟩)
      (Cert.Reference2Ideal.Value.run (F := Ideal) m' g')
    · obtain ⟨e0, e1, e2, e3, e4, e5, e6, _⟩ := hagree c
      funext i
      obtain ⟨n, d, rfl⟩ : ∃ (n : Fin 16384) (d : Fin 1024), i = ix2 n d := ⟨i 0, i 1, by funext a; match a with | 0 => rfl | 1 => rfl⟩
      refine (Cert.Reference2Ideal.Value.sums_apply _ _ _ _ _ _ n d).trans ?_
      show _ = Cert.Kernel2Ideal.Proj.argSum m c n d
      unfold Cert.Kernel2Ideal.Proj.argSum
      rw [e0, e1, e2, e3, e4, e5]
    · obtain ⟨e0, e1, e2, e3, e4, e5, e6, _⟩ := hagree c
      funext i
      obtain ⟨n, d, rfl⟩ : ∃ (n : Fin 16384) (d : Fin 1024), i = ix2 n d := ⟨i 0, i 1, by funext a; match a with | 0 => rfl | 1 => rfl⟩
      refine (Cert.Reference2Ideal.Value.norms_apply _ (Cert.Reference2Ideal.Value.sums _ _ _ _ _ _) n d).trans ?_
      simp only [Cert.Reference2Ideal.Value.sums_apply]
      show _ = Cert.Kernel2Ideal.Proj.argNorm m c n d
      unfold Cert.Kernel2Ideal.Proj.argNorm
      rw [e0, e1, e2, e3, e4, e5, e6]
      rfl

/-- The input projection as printed runs, its arguments end unchanged, every semaphore counter ends at zero. -/
theorem quiescent_kernel3 [hKernel3 : Cert.Kernel3.Facts] : Cert.quiescent_Kernel3 := by
  intro m g _
  rw [SameInProj.main_eq (hI := Cert.Kernel3Ideal.Gen.facts), SameInProj.defs_eq (hI := Cert.Kernel3Ideal.Gen.facts)]
  exact Cert.Kernel3Ideal.InProj.quiescent (F := Bits) m g

/-- The input projection's reference runs, its arguments end unchanged, and it declares no semaphore. -/
theorem quiescent_reference3 : Cert.quiescent_Reference3Ideal (hReference3Ideal := Cert.Reference3Ideal.Gen.facts) := fun m g _ =>
  (θ_run Cert.Reference3Ideal.defs _ _).mono (fun r h => ⟨fun c => (h c).2.2.2, sem_eq_zero_of_no_sems (by decide) r.2⟩)
    (Cert.Reference3Ideal.Value.run (F := Ideal) m g)

/-- The first result, the keys and the values of the input projection are the reference's, over the extended reals. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c i => Cert.Kernel3Ideal.InProj.argMain m c (i 0) (i 1), fun c i => Cert.Kernel3Ideal.InProj.argKeys m c (i 0) (i 1),
    fun c i => Cert.Kernel3Ideal.InProj.argValues m c (i 0) (i 1) (i 2), ?_, ?_⟩
  · exact (θ_run Cert.Kernel3Ideal.defs _ _).mono (fun r h c => ⟨(Cert.Kernel3Ideal.InProj.arr_end m h.2.1 c 13 rfl).trans
      (Cert.Kernel3Ideal.InProj.main_array m c), (Cert.Kernel3Ideal.InProj.arr_end m h.2.1 c 14 rfl).trans
      (Cert.Kernel3Ideal.InProj.keys_array m c), (Cert.Kernel3Ideal.InProj.arr_end m h.2.1 c 16 rfl).trans
      (Cert.Kernel3Ideal.InProj.values_array m c), h.1.1 c⟩)
      (θ_run_and (Cert.Kernel3Ideal.InProj.quiescent m g) (Cert.Kernel3Ideal.InProj.run_main m g))
  · refine (θ_run Cert.Reference3Ideal.defs _ _).mono (fun r h c => ⟨(h c).1.trans ?_, (h c).2.1.trans ?_, (h c).2.2.1.trans ?_, (h c).2.2.2⟩)
      (Cert.Reference3Ideal.Value.run (F := Ideal) m' g')
    · obtain ⟨e0, e1, e2, _⟩ := hagree c
      funext i
      obtain ⟨n, d, rfl⟩ : ∃ (n : Fin 16384) (d : Fin 2176), i = ix2 n d := ⟨i 0, i 1, by funext a; match a with | 0 => rfl | 1 => rfl⟩
      refine (Cert.Reference3Ideal.Value.result_apply _ _ _ n d).trans ?_
      show _ = Cert.Kernel3Ideal.InProj.argMain m c n d
      unfold Cert.Kernel3Ideal.InProj.argMain
      rw [e0, e1, e2]
    · obtain ⟨e0, e1, e2, _⟩ := hagree c
      funext i
      obtain ⟨n, d, rfl⟩ : ∃ (n : Fin 16384) (d : Fin 512), i = ix2 n d := ⟨i 0, i 1, by funext a; match a with | 0 => rfl | 1 => rfl⟩
      refine (Cert.Reference3Ideal.Value.keysResult_apply _ _ _ n d).trans ?_
      show _ = Cert.Kernel3Ideal.InProj.argKeys m c n d
      unfold Cert.Kernel3Ideal.InProj.argKeys
      rw [e0, e1, e2]
    · obtain ⟨e0, e1, e2, _⟩ := hagree c
      funext i
      obtain ⟨b, q, s, rfl⟩ : ∃ (b : Fin 2) (q : Fin 320) (s : Fin 8192), i = ix3 b q s :=
        ⟨i 0, i 1, i 2, by funext a; match a with | 0 => rfl | 1 => rfl | 2 => rfl⟩
      refine (Cert.Reference3Ideal.Value.valuesResult_apply _ _ _ b q s).trans ?_
      show _ = Cert.Kernel3Ideal.InProj.argValues m c b q s
      unfold Cert.Kernel3Ideal.InProj.argValues
      rw [e0, e1, e2]

/-- Every claim. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts, Cert.Pre_routed.Gen.facts,
  quiescent_kernel (hKernel := Cert.Kernel.Gen.facts),
  fun m g _ => Cert.KernelIdeal.Moe.quiescent (F := Ideal) m g,
  fun m g _ => Cert.KernelIdeal.Moe.quiescent (F := Ideal) m g,
  quiescent_reference,
  fun m g _ => quiescent_reference m g trivial,
  quiescent_kernel2, quiescent_kernel2_ideal, quiescent_reference2,
  quiescent_kernel3 (hKernel3 := Cert.Kernel3.Gen.facts), fun m g _ => Cert.Kernel3Ideal.InProj.quiescent (F := Ideal) m g, quiescent_reference3,
  trivial, algebraic, trivial, algebraic2, trivial, algebraic3⟩

end Cert.Proof

end
